-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e_over_t" .f32 0x41A4E123#32 (((Real.log 2)⁻¹ * (7 / 100)⁻¹ : ℝ) : EReal)
  ∧ IdealRules.named_const.Statement Cert.KernelIdeal.κ "ln2" .f32 0x3F317218#32 ((Real.log 2 : ℝ) : EReal)
  ∧ IdealRules.named_const.Statement Cert.KernelIdeal.κ "two_over_t" .f32 0x41E49249#32 ((2 * (7 / 100)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x512 : Shape := ⟨2, ![4096, 512]⟩
abbrev S4096x5x512 : Shape := ⟨3, ![4096, 5, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x5x512 : S_.BroadcastsInDim S4096x5x512 (![] : Fin 0 → Fin S4096x5x512.rank)
  reducesTo_S4096x5x512_S_d0_1_2 : S4096x5x512.ReducesTo [0, 1, 2] S_

variable [Facts]

def fn {F : FTy → Type} [FloatOps F] (main_arg0 : FVec F S4096x512 .f32) (main_arg1 : FVec F S4096x5x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x5x512 .f32 := Host.absf main_arg1
  let main_cst_0 : FVec F S_ .f32 := constant S_ .f32 0x7F800000#32
  let main_v5 : FVec F S4096x5x512 .f32 := broadcastInDim S4096x5x512 ![] bcast_S_S4096x5x512 main_cst_0
  let main_v6 : IVec S4096x5x512 1 := cmpf .olt main_v4 main_v5
  let main_c_1 : IVec S_ 1 := constantI S_ 1 1#1
  let main_v7 : IVec S_ 1 := (fun x v => Host.reduce IntOp.andi x v reducesTo_S4096x5x512_S_d0_1_2 h_S_) main_v6 main_c_1
  let main_v8 : IVec S_ 1 := andi main_v3 main_v7
  main_v8
-- ==== Kernel.lean ====
abbrev S4096x512 : Shape := ⟨2, ![4096, 512]⟩
abbrev S4096x5x512 : Shape := ⟨3, ![4096, 5, 512]⟩
abbrev S2x1x4096 : Shape := ⟨3, ![2, 1, 4096]⟩
abbrev S2x5x8x2048 : Shape := ⟨4, ![2, 5, 8, 2048]⟩
abbrev S2x1x128 : Shape := ⟨3, ![2, 1, 128]⟩
abbrev S1x1 : Shape := ⟨2, ![1, 1]⟩
abbrev S_ : Shape := ⟨0, ![]⟩
abbrev S1024x512 : Shape := ⟨2, ![1024, 512]⟩
abbrev S1024x5x512 : Shape := ⟨3, ![1024, 5, 512]⟩
abbrev S1x1x4096 : Shape := ⟨3, ![1, 1, 4096]⟩
abbrev S1x5x8x2048 : Shape := ⟨4, ![1, 5, 8, 2048]⟩
abbrev S1x1x128 : Shape := ⟨3, ![1, 1, 128]⟩
abbrev S5x1024x512 : Shape := ⟨3, ![5, 1024, 512]⟩
abbrev S1024x1x512 : Shape := ⟨3, ![1024, 1, 512]⟩
abbrev S1x1024x512 : Shape := ⟨3, ![1, 1024, 512]⟩
abbrev S512x512 : Shape := ⟨2, ![512, 512]⟩
abbrev S512x128 : Shape := ⟨2, ![512, 128]⟩
abbrev S1x512x512 : Shape := ⟨3, ![1, 512, 512]⟩
abbrev S64x8x512 : Shape := ⟨3, ![64, 8, 512]⟩
abbrev S8x512 : Shape := ⟨2, ![8, 512]⟩
abbrev S1x1x8x512 : Shape := ⟨4, ![1, 1, 8, 512]⟩
abbrev S512 : Shape := ⟨1, ![512]⟩
abbrev S128 : Shape := ⟨1, ![128]⟩
abbrev S1x1x512 : Shape := ⟨3, ![1, 1, 512]⟩
abbrev S4096 : Shape := ⟨1, ![4096]⟩
abbrev S1x4096 : Shape := ⟨2, ![1, 4096]⟩
abbrev S1 : Shape := ⟨1, ![1]⟩
abbrev S2x5x2048 : Shape := ⟨3, ![2, 5, 2048]⟩
abbrev S1x2x5x2048 : Shape := ⟨4, ![1, 2, 5, 2048]⟩
abbrev S1x1x1x1 : Shape := ⟨4, ![1, 1, 1, 1]⟩
abbrev S1x2x1x128 : Shape := ⟨4, ![1, 2, 1, 128]⟩

abbrev nBuf : Space → Nat
  | .hbm => 7
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x5x512, .f32⟩
  | .hbm, ⟨2, _⟩ => ⟨S2x1x4096, .f32⟩
  | .hbm, ⟨3, _⟩ => ⟨S2x5x8x2048, .f32⟩
  | .hbm, ⟨4, _⟩ => ⟨S2x1x128, .f32⟩
  | .hbm, ⟨5, _⟩ => ⟨S1x1, .f32⟩
  | .hbm, ⟨6, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x5x512, .f32⟩
  | .local _ .vmem, ⟨3, _⟩ => ⟨S1024x5x512, .f32⟩
  | .local _ .vmem, ⟨4, _⟩ => ⟨S1x1x4096, .f32⟩
  | .local _ .vmem, ⟨5, _⟩ => ⟨S1x1x4096, .f32⟩
  | .local _ .vmem, ⟨6, _⟩ => ⟨S1x5x8x2048, .f32⟩
  | .local _ .vmem, ⟨7, _⟩ => ⟨S1x5x8x2048, .f32⟩
  | .local _ .vmem, ⟨8, _⟩ => ⟨S1x1x128, .f32⟩
  | .local _ .vmem, ⟨9, _⟩ => ⟨S1x1x128, .f32⟩
  | .local _ .vmem, ⟨10, _⟩ => ⟨S5x1024x512, .f32⟩
  | .local _ .vmem, ⟨11, _⟩ => ⟨S2x1x4096, .f32⟩
  | .local _ .vmem, ⟨12, _⟩ => ⟨S2x5x8x2048, .f32⟩
  | .local _ .vmem, ⟨13, _⟩ => ⟨S2x1x128, .f32⟩
  | .local _ .vmem, ⟨14, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13

abbrev nD : Nat := 1
abbrev τ : Topo := Topo.v7x

variable {F : FTy → Type} [FloatOps F]

abbrev grid0 : Pipeline.Grid := ⟨3, ![2, 2, 4], ![false, false, false]⟩

def k0_off1 (i : grid0.Coords) (c0_i32_14 : BitVec 32) : Fin 4 → Nat :=
  let c0_15 : Index := 0#32
  let c0_16 : Index := 0#32
  let c0_17 : Index := 0#32
  let arg1 : BitVec 32 := BitVec.ofNat 32 (i 1).val
  let c1024_i32 : BitVec 32 := 1024#32
  let v32 : BitVec 32 := Scalar.muli arg1 c1024_i32
  let v33 : BitVec 32 := Scalar.addi v32 c0_i32_14
  let v34 : Index := Scalar.indexCast v33
  ![0, 0, 0, v34.toNat]
def k0_off2 (i : grid0.Coords) (c0_i32_49 : BitVec 32) : Fin 4 → Nat :=
  let c0_50 : Index := 0#32
  let c1_51 : Index := 1#32
  let c0_52 : Index := 0#32
  let arg1 : BitVec 32 := BitVec.ofNat 32 (i 1).val
  let c1024_i32_48 : BitVec 32 := 1024#32
  let v102 : BitVec 32 := Scalar.muli arg1 c1024_i32_48
  let v103 : BitVec 32 := Scalar.addi v102 c0_i32_49
  let v104 : Index := Scalar.indexCast v103
  ![0, 1, 0, v104.toNat]
def k0_off3 (i : grid0.Coords) (c0_i32_88 : BitVec 32) : Fin 4 → Nat :=
  let c0_89 : Index := 0#32
  let c2_90 : Index := 2#32
  let c0_91 : Index := 0#32
  let arg1 : BitVec 32 := BitVec.ofNat 32 (i 1).val
  let c1024_i32_87 : BitVec 32 := 1024#32
  let v172 : BitVec 32 := Scalar.muli arg1 c1024_i32_87
  let v173 : BitVec 32 := Scalar.addi v172 c0_i32_88
  let v174 : Index := Scalar.indexCast v173
  ![0, 2, 0, v174.toNat]
def k0_off4 (i : grid0.Coords) (c0_i32_127 : BitVec 32) : Fin 4 → Nat :=
  let c0_128 : Index := 0#32
  let c3_129 : Index := 3#32
  let c0_130 : Index := 0#32
  let arg1 : BitVec 32 := BitVec.ofNat 32 (i 1).val
  let c1024_i32_126 : BitVec 32 := 1024#32
  let v242 : BitVec 32 := Scalar.muli arg1 c1024_i32_126
  let v243 : BitVec 32 := Scalar.addi v242 c0_i32_127
  let v244 : Index := Scalar.indexCast v243
  ![0, 3, 0, v244.toNat]
def k0_off5 (i : grid0.Coords) (c0_i32_166 : BitVec 32) : Fin 4 → Nat :=
  let c0_167 : Index := 0#32
  let c4_168 : Index := 4#32
  let c0_169 : Index := 0#32
  let arg1 : BitVec 32 := BitVec.ofNat 32 (i 1).val
  let c1024_i32_165 : BitVec 32 := 1024#32
  let v312 : BitVec 32 := Scalar.muli arg1 c1024_i32_165
  let v313 : BitVec 32 := Scalar.addi v312 c0_i32_166
  let v314 : Index := Scalar.indexCast v313
  ![0, 4, 0, v314.toNat]
def k0_off6 (i : grid0.Coords) (c0_i32_201 : BitVec 32) : Fin 3 → Nat :=
  let c0_202 : Index := 0#32
  let c0_203 : Index := 0#32
  let arg2 : BitVec 32 := BitVec.ofNat 32 (i 2).val
  let c1024_i32_200 : BitVec 32 := 1024#32
  let v367 : BitVec 32 := Scalar.muli arg2 c1024_i32_200
  let v368 : BitVec 32 := Scalar.addi v367 c0_i32_201
  let v369 : Index := Scalar.indexCast v368
  ![0, 0, v369.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg2 : BitVec 32 := BitVec.ofNat 32 (i 2).val
  let c2_i32_6 : BitVec 32 := 2#32
  let v14 : BitVec 32 := Scalar.muli arg2 c2_i32_6
  let c0_i32_7 : BitVec 32 := 0#32
  let v15 : BitVec 32 := Scalar.addi v14 c0_i32_7
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_23 : BitVec 32 := 2#32
  let v46 : BitVec 32 := Scalar.muli v9 c2_i32_23
  let c0_i32_24 : BitVec 32 := 0#32
  let v47 : BitVec 32 := Scalar.addi v46 c0_i32_24
  let v48 : BitVec 1 := Scalar.cmpi .eq v15 v47
  let v49 : BitVec 32 := Scalar.extui v48
  let c0_i32_25 : BitVec 32 := 0#32
  let v50 : BitVec 1 := Scalar.cmpi .ne v49 c0_i32_25
  v50

def k0_cond4 (i : grid0.Coords) : BitVec 1 :=
  let arg2 : BitVec 32 := BitVec.ofNat 32 (i 2).val
  let c2_i32_6 : BitVec 32 := 2#32
  let v14 : BitVec 32 := Scalar.muli arg2 c2_i32_6
  let c0_i32_7 : BitVec 32 := 0#32
  let v15 : BitVec 32 := Scalar.addi v14 c0_i32_7
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_41 : BitVec 32 := 2#32
  let v81 : BitVec 32 := Scalar.muli v9 c2_i32_41
  let c1_i32 : BitVec 32 := 1#32
  let v82 : BitVec 32 := Scalar.addi v81 c1_i32
  let v83 : BitVec 1 := Scalar.cmpi .eq v15 v82
  let v84 : BitVec 32 := Scalar.extui v83
  let c0_i32_42 : BitVec 32 := 0#32
  let v85 : BitVec 1 := Scalar.cmpi .ne v84 c0_i32_42
  v85

def k0_cond5 (i : grid0.Coords) : BitVec 1 :=
  let arg2 : BitVec 32 := BitVec.ofNat 32 (i 2).val
  let c2_i32_6 : BitVec 32 := 2#32
  let v14 : BitVec 32 := Scalar.muli arg2 c2_i32_6
  let c0_i32_7 : BitVec 32 := 0#32
  let v15 : BitVec 32 := Scalar.addi v14 c0_i32_7
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_59 : BitVec 32 := 2#32
  let v116 : BitVec 32 := Scalar.muli v9 c2_i32_59
  let c0_i32_60 : BitVec 32 := 0#32
  let v117 : BitVec 32 := Scalar.addi v116 c0_i32_60
  let v118 : BitVec 1 := Scalar.cmpi .eq v15 v117
  let v119 : BitVec 32 := Scalar.extui v118
  let c0_i32_61 : BitVec 32 := 0#32
  let v120 : BitVec 1 := Scalar.cmpi .ne v119 c0_i32_61
  v120

def k0_cond6 (i : grid0.Coords) : BitVec 1 :=
  let arg2 : BitVec 32 := BitVec.ofNat 32 (i 2).val
  let c2_i32_6 : BitVec 32 := 2#32
  let v14 : BitVec 32 := Scalar.muli arg2 c2_i32_6
  let c0_i32_7 : BitVec 32 := 0#32
  let v15 : BitVec 32 := Scalar.addi v14 c0_i32_7
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_79 : BitVec 32 := 2#32
  let v151 : BitVec 32 := Scalar.muli v9 c2_i32_79
  let c1_i32_80 : BitVec 32 := 1#32
  let v152 : BitVec 32 := Scalar.addi v151 c1_i32_80
  let v153 : BitVec 1 := Scalar.cmpi .eq v15 v152
  let v154 : BitVec 32 := Scalar.extui v153
  let c0_i32_81 : BitVec 32 := 0#32
  let v155 : BitVec 1 := Scalar.cmpi .ne v154 c0_i32_81
  v155

def k0_cond7 (i : grid0.Coords) : BitVec 1 :=
  let arg2 : BitVec 32 := BitVec.ofNat 32 (i 2).val
  let c2_i32_6 : BitVec 32 := 2#32
  let v14 : BitVec 32 := Scalar.muli arg2 c2_i32_6
  let c0_i32_7 : BitVec 32 := 0#32
  let v15 : BitVec 32 := Scalar.addi v14 c0_i32_7
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_98 : BitVec 32 := 2#32
  let v186 : BitVec 32 := Scalar.muli v9 c2_i32_98
  let c0_i32_99 : BitVec 32 := 0#32
  let v187 : BitVec 32 := Scalar.addi v186 c0_i32_99
  let v188 : BitVec 1 := Scalar.cmpi .eq v15 v187
  let v189 : BitVec 32 := Scalar.extui v188
  let c0_i32_100 : BitVec 32 := 0#32
  let v190 : BitVec 1 := Scalar.cmpi .ne v189 c0_i32_100
  v190

def k0_cond8 (i : grid0.Coords) : BitVec 1 :=
  let arg2 : BitVec 32 := BitVec.ofNat 32 (i 2).val
  let c2_i32_6 : BitVec 32 := 2#32
  let v14 : BitVec 32 := Scalar.muli arg2 c2_i32_6
  let c0_i32_7 : BitVec 32 := 0#32
  let v15 : BitVec 32 := Scalar.addi v14 c0_i32_7
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_118 : BitVec 32 := 2#32
  let v221 : BitVec 32 := Scalar.muli v9 c2_i32_118
  let c1_i32_119 : BitVec 32 := 1#32
  let v222 : BitVec 32 := Scalar.addi v221 c1_i32_119
  let v223 : BitVec 1 := Scalar.cmpi .eq v15 v222
  let v224 : BitVec 32 := Scalar.extui v223
  let c0_i32_120 : BitVec 32 := 0#32
  let v225 : BitVec 1 := Scalar.cmpi .ne v224 c0_i32_120
  v225

def k0_cond9 (i : grid0.Coords) : BitVec 1 :=
  let arg2 : BitVec 32 := BitVec.ofNat 32 (i 2).val
  let c2_i32_6 : BitVec 32 := 2#32
  let v14 : BitVec 32 := Scalar.muli arg2 c2_i32_6
  let c0_i32_7 : BitVec 32 := 0#32
  let v15 : BitVec 32 := Scalar.addi v14 c0_i32_7
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_137 : BitVec 32 := 2#32
  let v256 : BitVec 32 := Scalar.muli v9 c2_i32_137
  let c0_i32_138 : BitVec 32 := 0#32
  let v257 : BitVec 32 := Scalar.addi v256 c0_i32_138
  let v258 : BitVec 1 := Scalar.cmpi .eq v15 v257
  let v259 : BitVec 32 := Scalar.extui v258
  let c0_i32_139 : BitVec 32 := 0#32
  let v260 : BitVec 1 := Scalar.cmpi .ne v259 c0_i32_139
  v260

def k0_cond10 (i : grid0.Coords) : BitVec 1 :=
  let arg2 : BitVec 32 := BitVec.ofNat 32 (i 2).val
  let c2_i32_6 : BitVec 32 := 2#32
  let v14 : BitVec 32 := Scalar.muli arg2 c2_i32_6
  let c0_i32_7 : BitVec 32 := 0#32
  let v15 : BitVec 32 := Scalar.addi v14 c0_i32_7
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_157 : BitVec 32 := 2#32
  let v291 : BitVec 32 := Scalar.muli v9 c2_i32_157
  let c1_i32_158 : BitVec 32 := 1#32
  let v292 : BitVec 32 := Scalar.addi v291 c1_i32_158
  let v293 : BitVec 1 := Scalar.cmpi .eq v15 v292
  let v294 : BitVec 32 := Scalar.extui v293
  let c0_i32_159 : BitVec 32 := 0#32
  let v295 : BitVec 1 := Scalar.cmpi .ne v294 c0_i32_159
  v295

def k0_cond11 (i : grid0.Coords) : BitVec 1 :=
  let arg2 : BitVec 32 := BitVec.ofNat 32 (i 2).val
  let c2_i32_6 : BitVec 32 := 2#32
  let v14 : BitVec 32 := Scalar.muli arg2 c2_i32_6
  let c0_i32_7 : BitVec 32 := 0#32
  let v15 : BitVec 32 := Scalar.addi v14 c0_i32_7
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_176 : BitVec 32 := 2#32
  let v326 : BitVec 32 := Scalar.muli v9 c2_i32_176
  let c0_i32_177 : BitVec 32 := 0#32
  let v327 : BitVec 32 := Scalar.addi v326 c0_i32_177
  let v328 : BitVec 1 := Scalar.cmpi .eq v15 v327
  let v329 : BitVec 32 := Scalar.extui v328
  let c0_i32_178 : BitVec 32 := 0#32
  let v330 : BitVec 1 := Scalar.cmpi .ne v329 c0_i32_178
  v330

def k0_cond12 (i : grid0.Coords) : BitVec 1 :=
  let arg2 : BitVec 32 := BitVec.ofNat 32 (i 2).val
  let c2_i32_6 : BitVec 32 := 2#32
  let v14 : BitVec 32 := Scalar.muli arg2 c2_i32_6
  let c0_i32_7 : BitVec 32 := 0#32
  let v15 : BitVec 32 := Scalar.addi v14 c0_i32_7
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_196 : BitVec 32 := 2#32
  let v361 : BitVec 32 := Scalar.muli v9 c2_i32_196
  let c1_i32_197 : BitVec 32 := 1#32
  let v362 : BitVec 32 := Scalar.addi v361 c1_i32_197
  let v363 : BitVec 1 := Scalar.cmpi .eq v15 v362
  let v364 : BitVec 32 := Scalar.extui v363
  let c0_i32_198 : BitVec 32 := 0#32
  let v365 : BitVec 1 := Scalar.cmpi .ne v364 c0_i32_198
  v365

def k0_cond13 (i : grid0.Coords) : BitVec 1 :=
  let arg2 : BitVec 32 := BitVec.ofNat 32 (i 2).val
  let c2_i32_212 : BitVec 32 := 2#32
  let v384 : BitVec 32 := Scalar.muli arg2 c2_i32_212
  let c1_i32_213 : BitVec 32 := 1#32
  let v385 : BitVec 32 := Scalar.addi v384 c1_i32_213
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_230 : BitVec 32 := 2#32
  let v416 : BitVec 32 := Scalar.muli v9 c2_i32_230
  let c0_i32_231 : BitVec 32 := 0#32
  let v417 : BitVec 32 := Scalar.addi v416 c0_i32_231
  let v418 : BitVec 1 := Scalar.cmpi .eq v385 v417
  let v419 : BitVec 32 := Scalar.extui v418
  let c0_i32_232 : BitVec 32 := 0#32
  let v420 : BitVec 1 := Scalar.cmpi .ne v419 c0_i32_232
  v420

def k0_cond14 (i : grid0.Coords) : BitVec 1 :=
  let arg2 : BitVec 32 := BitVec.ofNat 32 (i 2).val
  let c2_i32_212 : BitVec 32 := 2#32
  let v384 : BitVec 32 := Scalar.muli arg2 c2_i32_212
  let c1_i32_213 : BitVec 32 := 1#32
  let v385 : BitVec 32 := Scalar.addi v384 c1_i32_213
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_250 : BitVec 32 := 2#32
  let v451 : BitVec 32 := Scalar.muli v9 c2_i32_250
  let c1_i32_251 : BitVec 32 := 1#32
  let v452 : BitVec 32 := Scalar.addi v451 c1_i32_251
  let v453 : BitVec 1 := Scalar.cmpi .eq v385 v452
  let v454 : BitVec 32 := Scalar.extui v453
  let c0_i32_252 : BitVec 32 := 0#32
  let v455 : BitVec 1 := Scalar.cmpi .ne v454 c0_i32_252
  v455

def k0_cond15 (i : grid0.Coords) : BitVec 1 :=
  let arg2 : BitVec 32 := BitVec.ofNat 32 (i 2).val
  let c2_i32_212 : BitVec 32 := 2#32
  let v384 : BitVec 32 := Scalar.muli arg2 c2_i32_212
  let c1_i32_213 : BitVec 32 := 1#32
  let v385 : BitVec 32 := Scalar.addi v384 c1_i32_213
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_270 : BitVec 32 := 2#32
  let v486 : BitVec 32 := Scalar.muli v9 c2_i32_270
  let c0_i32_271 : BitVec 32 := 0#32
  let v487 : BitVec 32 := Scalar.addi v486 c0_i32_271
  let v488 : BitVec 1 := Scalar.cmpi .eq v385 v487
  let v489 : BitVec 32 := Scalar.extui v488
  let c0_i32_272 : BitVec 32 := 0#32
  let v490 : BitVec 1 := Scalar.cmpi .ne v489 c0_i32_272
  v490

def k0_cond16 (i : grid0.Coords) : BitVec 1 :=
  let arg2 : BitVec 32 := BitVec.ofNat 32 (i 2).val
  let c2_i32_212 : BitVec 32 := 2#32
  let v384 : BitVec 32 := Scalar.muli arg2 c2_i32_212
  let c1_i32_213 : BitVec 32 := 1#32
  let v385 : BitVec 32 := Scalar.addi v384 c1_i32_213
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_290 : BitVec 32 := 2#32
  let v521 : BitVec 32 := Scalar.muli v9 c2_i32_290
  let c1_i32_291 : BitVec 32 := 1#32
  let v522 : BitVec 32 := Scalar.addi v521 c1_i32_291
  let v523 : BitVec 1 := Scalar.cmpi .eq v385 v522
  let v524 : BitVec 32 := Scalar.extui v523
  let c0_i32_292 : BitVec 32 := 0#32
  let v525 : BitVec 1 := Scalar.cmpi .ne v524 c0_i32_292
  v525

def k0_cond17 (i : grid0.Coords) : BitVec 1 :=
  let arg2 : BitVec 32 := BitVec.ofNat 32 (i 2).val
  let c2_i32_212 : BitVec 32 := 2#32
  let v384 : BitVec 32 := Scalar.muli arg2 c2_i32_212
  let c1_i32_213 : BitVec 32 := 1#32
  let v385 : BitVec 32 := Scalar.addi v384 c1_i32_213
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_310 : BitVec 32 := 2#32
  let v556 : BitVec 32 := Scalar.muli v9 c2_i32_310
  let c0_i32_311 : BitVec 32 := 0#32
  let v557 : BitVec 32 := Scalar.addi v556 c0_i32_311
  let v558 : BitVec 1 := Scalar.cmpi .eq v385 v557
  let v559 : BitVec 32 := Scalar.extui v558
  let c0_i32_312 : BitVec 32 := 0#32
  let v560 : BitVec 1 := Scalar.cmpi .ne v559 c0_i32_312
  v560

def k0_cond18 (i : grid0.Coords) : BitVec 1 :=
  let arg2 : BitVec 32 := BitVec.ofNat 32 (i 2).val
  let c2_i32_212 : BitVec 32 := 2#32
  let v384 : BitVec 32 := Scalar.muli arg2 c2_i32_212
  let c1_i32_213 : BitVec 32 := 1#32
  let v385 : BitVec 32 := Scalar.addi v384 c1_i32_213
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_330 : BitVec 32 := 2#32
  let v591 : BitVec 32 := Scalar.muli v9 c2_i32_330
  let c1_i32_331 : BitVec 32 := 1#32
  let v592 : BitVec 32 := Scalar.addi v591 c1_i32_331
  let v593 : BitVec 1 := Scalar.cmpi .eq v385 v592
  let v594 : BitVec 32 := Scalar.extui v593
  let c0_i32_332 : BitVec 32 := 0#32
  let v595 : BitVec 1 := Scalar.cmpi .ne v594 c0_i32_332
  v595

def k0_cond19 (i : grid0.Coords) : BitVec 1 :=
  let arg2 : BitVec 32 := BitVec.ofNat 32 (i 2).val
  let c2_i32_212 : BitVec 32 := 2#32
  let v384 : BitVec 32 := Scalar.muli arg2 c2_i32_212
  let c1_i32_213 : BitVec 32 := 1#32
  let v385 : BitVec 32 := Scalar.addi v384 c1_i32_213
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_350 : BitVec 32 := 2#32
  let v626 : BitVec 32 := Scalar.muli v9 c2_i32_350
  let c0_i32_351 : BitVec 32 := 0#32
  let v627 : BitVec 32 := Scalar.addi v626 c0_i32_351
  let v628 : BitVec 1 := Scalar.cmpi .eq v385 v627
  let v629 : BitVec 32 := Scalar.extui v628
  let c0_i32_352 : BitVec 32 := 0#32
  let v630 : BitVec 1 := Scalar.cmpi .ne v629 c0_i32_352
  v630

def k0_cond20 (i : grid0.Coords) : BitVec 1 :=
  let arg2 : BitVec 32 := BitVec.ofNat 32 (i 2).val
  let c2_i32_212 : BitVec 32 := 2#32
  let v384 : BitVec 32 := Scalar.muli arg2 c2_i32_212
  let c1_i32_213 : BitVec 32 := 1#32
  let v385 : BitVec 32 := Scalar.addi v384 c1_i32_213
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_370 : BitVec 32 := 2#32
  let v661 : BitVec 32 := Scalar.muli v9 c2_i32_370
  let c1_i32_371 : BitVec 32 := 1#32
  let v662 : BitVec 32 := Scalar.addi v661 c1_i32_371
  let v663 : BitVec 1 := Scalar.cmpi .eq v385 v662
  let v664 : BitVec 32 := Scalar.extui v663
  let c0_i32_372 : BitVec 32 := 0#32
  let v665 : BitVec 1 := Scalar.cmpi .ne v664 c0_i32_372
  v665

def k0_cond21 (i : grid0.Coords) : BitVec 1 :=
  let arg2 : BitVec 32 := BitVec.ofNat 32 (i 2).val
  let c2_i32_212 : BitVec 32 := 2#32
  let v384 : BitVec 32 := Scalar.muli arg2 c2_i32_212
  let c1_i32_213 : BitVec 32 := 1#32
  let v385 : BitVec 32 := Scalar.addi v384 c1_i32_213
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_390 : BitVec 32 := 2#32
  let v696 : BitVec 32 := Scalar.muli v9 c2_i32_390
  let c0_i32_391 : BitVec 32 := 0#32
  let v697 : BitVec 32 := Scalar.addi v696 c0_i32_391
  let v698 : BitVec 1 := Scalar.cmpi .eq v385 v697
  let v699 : BitVec 32 := Scalar.extui v698
  let c0_i32_392 : BitVec 32 := 0#32
  let v700 : BitVec 1 := Scalar.cmpi .ne v699 c0_i32_392
  v700

def k0_cond22 (i : grid0.Coords) : BitVec 1 :=
  let arg2 : BitVec 32 := BitVec.ofNat 32 (i 2).val
  let c2_i32_212 : BitVec 32 := 2#32
  let v384 : BitVec 32 := Scalar.muli arg2 c2_i32_212
  let c1_i32_213 : BitVec 32 := 1#32
  let v385 : BitVec 32 := Scalar.addi v384 c1_i32_213
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c2_i32_410 : BitVec 32 := 2#32
  let v731 : BitVec 32 := Scalar.muli v9 c2_i32_410
  let c1_i32_411 : BitVec 32 := 1#32
  let v732 : BitVec 32 := Scalar.addi v731 c1_i32_411
  let v733 : BitVec 1 := Scalar.cmpi .eq v385 v732
  let v734 : BitVec 32 := Scalar.extui v733
  let c0_i32_412 : BitVec 32 := 0#32
  let v735 : BitVec 1 := Scalar.cmpi .ne v734 c0_i32_412
  v735

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x5x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x5x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev grid1 : Pipeline.Grid := .none

abbrev stage1_0 : Fin 1 → Memref sig .tc .vmem S2x1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x5x8x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "log2e_over_t" => some (((Real.log 2)⁻¹ * (7 / 100)⁻¹ : ℝ) : EReal)
  | "two_over_t" => some ((2 * (7 / 100)⁻¹ : ℝ) : EReal)
  | _ => none
-- ==== ReferenceIdeal.lean ====
abbrev S4096x512 : Shape := ⟨2, ![4096, 512]⟩
abbrev S4096x5x512 : Shape := ⟨3, ![4096, 5, 512]⟩
abbrev S20480x512 : Shape := ⟨2, ![20480, 512]⟩
abbrev S_ : Shape := ⟨0, ![]⟩
abbrev S512x20480 : Shape := ⟨2, ![512, 20480]⟩
abbrev S4096x20480 : Shape := ⟨2, ![4096, 20480]⟩
abbrev S4096 : Shape := ⟨1, ![4096]⟩
abbrev S4096x1 : Shape := ⟨2, ![4096, 1]⟩
abbrev S4096x4096x5 : Shape := ⟨3, ![4096, 4096, 5]⟩
abbrev S4096x2 : Shape := ⟨2, ![4096, 2]⟩
abbrev S4096x5 : Shape := ⟨2, ![4096, 5]⟩
abbrev S20480 : Shape := ⟨1, ![20480]⟩
abbrev S1x20480 : Shape := ⟨2, ![1, 20480]⟩
abbrev S20480x1 : Shape := ⟨2, ![20480, 1]⟩
abbrev S20480x2 : Shape := ⟨2, ![20480, 2]⟩

abbrev nBuf : Space → Nat
  | .hbm => 107
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x5x512, .f32⟩
  | .hbm, ⟨2, _⟩ => ⟨S20480x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S512x20480, .f32⟩
  | .hbm, ⟨7, _⟩ => ⟨S4096x20480, .f32⟩
  | .hbm, ⟨8, _⟩ => ⟨S4096x20480, .f32⟩
  | .hbm, ⟨9, _⟩ => ⟨S4096x20480, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x20480, .f32⟩
  | .hbm, ⟨14, _⟩ => ⟨S4096x20480, .f32⟩
  | .hbm, ⟨15, _⟩ => ⟨S4096x20480, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096x4096x5, .f32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S4096x1, .i32⟩
  | .hbm, ⟨39, _⟩ => ⟨S4096x2, .i32⟩
  | .hbm, ⟨40, _⟩ => ⟨S4096x5, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S20480, .f32⟩
  | .hbm, ⟨53, _⟩ => ⟨S1x20480, .f32⟩
  | .hbm, ⟨54, _⟩ => ⟨S4096x20480, .f32⟩
  | .hbm, ⟨55, _⟩ => ⟨S4096x20480, .f32⟩
  | .hbm, ⟨56, _⟩ => ⟨S4096x20480, .f32⟩
  | .hbm, ⟨57, _⟩ => ⟨S_, .f32⟩
  | .hbm, ⟨58, _⟩ => ⟨S20480, .f32⟩
  | .hbm, ⟨59, _⟩ => ⟨S20480, .f32⟩
  | .hbm, ⟨60, _⟩ => ⟨S20480, .f32⟩
  | .hbm, ⟨61, _⟩ => ⟨S20480, .i32⟩
  | .hbm, ⟨62, _⟩ => ⟨S_, .i32⟩
  | .hbm, ⟨63, _⟩ => ⟨S_, .i32⟩
  | .hbm, ⟨64, _⟩ => ⟨S20480, .i32⟩
  | .hbm, ⟨65, _⟩ => ⟨S20480, .i32⟩
  | .hbm, ⟨66, _⟩ => ⟨S20480, .i32⟩
  | .hbm, ⟨67, _⟩ => ⟨S_, .i32⟩
  | .hbm, ⟨68, _⟩ => ⟨S20480, .i32⟩
  | .hbm, ⟨69, _⟩ => ⟨S20480, .i1⟩
  | .hbm, ⟨70, _⟩ => ⟨S20480, .i32⟩
  | .hbm, ⟨71, _⟩ => ⟨S20480, .i32⟩
  | .hbm, ⟨72, _⟩ => ⟨S_, .i32⟩
  | .hbm, ⟨73, _⟩ => ⟨S20480, .i32⟩
  | .hbm, ⟨74, _⟩ => ⟨S20480, .i1⟩
  | .hbm, ⟨75, _⟩ => ⟨S20480, .i1⟩
  | .hbm, ⟨76, _⟩ => ⟨S_, .i32⟩
  | .hbm, ⟨77, _⟩ => ⟨S20480, .i32⟩
  | .hbm, ⟨78, _⟩ => ⟨S20480, .i32⟩
  | .hbm, ⟨79, _⟩ => ⟨S20480, .i32⟩
  | .hbm, ⟨80, _⟩ => ⟨S20480, .i32⟩
  | .hbm, ⟨81, _⟩ => ⟨S_, .i32⟩
  | .hbm, ⟨82, _⟩ => ⟨S20480, .i32⟩
  | .hbm, ⟨83, _⟩ => ⟨S20480, .i1⟩
  | .hbm, ⟨84, _⟩ => ⟨S_, .i32⟩
  | .hbm, ⟨85, _⟩ => ⟨S20480, .i32⟩
  | .hbm, ⟨86, _⟩ => ⟨S20480, .i32⟩
  | .hbm, ⟨87, _⟩ => ⟨S20480, .i32⟩
  | .hbm, ⟨88, _⟩ => ⟨S_, .i32⟩
  | .hbm, ⟨89, _⟩ => ⟨S20480, .i32⟩
  | .hbm, ⟨90, _⟩ => ⟨S20480, .i1⟩
  | .hbm, ⟨91, _⟩ => ⟨S_, .i32⟩
  | .hbm, ⟨92, _⟩ => ⟨S20480, .i32⟩
  | .hbm, ⟨93, _⟩ => ⟨S20480, .i32⟩
  | .hbm, ⟨94, _⟩ => ⟨S20480, .i32⟩
  | .hbm, ⟨95, _⟩ => ⟨S20480x1, .i32⟩
  | .hbm, ⟨96, _⟩ => ⟨S20480x1, .i32⟩
  | .hbm, ⟨97, _⟩ => ⟨S20480x2, .i32⟩
  | .hbm, ⟨98, _⟩ => ⟨S20480, .f32⟩
  | .hbm, ⟨99, _⟩ => ⟨S20480, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_12 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_c : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_0 : Ref sig .tc := ⟨.hbm, 76, rfl⟩
abbrev main_call0_v12 : Ref sig .tc := ⟨.hbm, 77, rfl⟩
abbrev main_call0_v13 : Ref sig .tc := ⟨.hbm, 78, rfl⟩
abbrev main_v46 : Ref sig .tc := ⟨.hbm, 79, rfl⟩
abbrev main_v47 : Ref sig .tc := ⟨.hbm, 80, rfl⟩
abbrev main_c_13 : Ref sig .tc := ⟨.hbm, 81, rfl⟩
abbrev main_v48 : Ref sig .tc := ⟨.hbm, 82, rfl⟩
abbrev main_v49 : Ref sig .tc := ⟨.hbm, 83, rfl⟩
abbrev main_c_14 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_15 : Ref sig .tc := ⟨.hbm, 88, rfl⟩
abbrev main_v53 : Ref sig .tc := ⟨.hbm, 89, rfl⟩
abbrev main_v54 : Ref sig .tc := ⟨.hbm, 90, rfl⟩
abbrev main_c_16 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_17 : Ref sig .tc := ⟨.hbm, 100, rfl⟩
abbrev main_v63 : Ref sig .tc := ⟨.hbm, 101, rfl⟩
abbrev main_cst_18 : Ref sig .tc := ⟨.hbm, 102, rfl⟩
abbrev main_v64 : Ref sig .tc := ⟨.hbm, 103, rfl⟩
abbrev main_v65 : Ref sig .tc := ⟨.hbm, 104, rfl⟩
abbrev main_cst_19 : Ref sig .tc := ⟨.hbm, 105, rfl⟩
abbrev main_v66 : Ref sig .tc := ⟨.hbm, 106, rfl⟩

abbrev nD : Nat := 1
abbrev τ : Topo := Topo.v7x

variable {F : FTy → Type} [FloatOps F]
-- ==== Proof.KI.Run.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The certificate's resource algebra: the pipelines' cells. -/
abbrev UU : Type := UR sig nD τ

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body run at a point on the diagonal of the grid (the point's image block and its text block are the same half-blocks),
with what it leaves in the three results' staging buffers and in the scratch. -/
def runOn (c : Dev nD) (i : grid0.Coords)
    (e3 : k0_cond3 i = 1#1) (e4 : ¬ k0_cond4 i = 1#1) (e5 : k0_cond5 i = 1#1) (e6 : ¬ k0_cond6 i = 1#1) (e7 : k0_cond7 i = 1#1)
    (e8 : ¬ k0_cond8 i = 1#1) (e9 : k0_cond9 i = 1#1) (e10 : ¬ k0_cond10 i = 1#1) (e11 : k0_cond11 i = 1#1) (e12 : ¬ k0_cond12 i = 1#1)
    (e13 : ¬ k0_cond13 i = 1#1) (e14 : k0_cond14 i = 1#1) (e15 : ¬ k0_cond15 i = 1#1) (e16 : k0_cond16 i = 1#1) (e17 : ¬ k0_cond17 i = 1#1)
    (e18 : k0_cond18 i = 1#1) (e19 : ¬ k0_cond19 i = 1#1) (e20 : k0_cond20 i = 1#1) (e21 : ¬ k0_cond21 i = 1#1) (e22 : k0_cond22 i = 1#1)
    (M0 : Memref sig .tc .vmem S1024x512 .f32) (h0 : M0.IsWhole) (M1 : Memref sig .tc .vmem S1024x5x512 .f32) (h1 : M1.IsWhole)
    (M2 : Memref sig .tc .vmem S1x1x4096 .f32) (h2 : M2.IsWhole) (M3 : Memref sig .tc .vmem S1x5x8x2048 .f32) (h3 : M3.IsWhole)
    (M4 : Memref sig .tc .vmem S1x1x128 .f32) (h4 : M4.IsWhole) (M5 : Memref sig .tc .vmem S5x1024x512 .f32) (h5 : M5.IsWhole)
    (f0 : Bf (F := F) c M0) (f1 : Bf (F := F) c M1) (f2 : Bf (F := F) c M2) (f3 : Bf (F := F) c M3) (f4 : Bf (F := F) c M4)
    (f5 : Bf (F := F) c M5) :
    { W : Bf (F := F) c M2 × Bf (F := F) c M3 × Bf (F := F) c M4 × Bf (F := F) c M5 //
      ∀ (E : Set ℕ) (Q : PUnit → sProp 𝕄),
        iprop(pt c M0 f0 ∗ pt c M1 f1 ∗ pt c M2 f2 ∗ pt c M3 f3 ∗ pt c M4 f4 ∗ pt c M5 f5
          ∗ (iprop(pt c M0 f0 ∗ pt c M1 f1 ∗ pt c M2 W.1 ∗ pt c M3 W.2.1 ∗ pt c M4 W.2.2.1 ∗ pt c M5 W.2.2.2) -∗ Q ⟨⟩))
        ⊢ wp frame (wpE (defs₀ (F := F)) Variants.none c none) E
            (cc0__main_body i M0 h0 M1 h1 M2 h2 M3 h3 M4 h4 M5 h5) Q } := by
  refine ⟨⟨?_, ?_, ?_, ?_⟩, fun E Q => ?run⟩
  case run =>
    iintro ⟨H0, H1, H2, H3, H4, H5, Hk⟩
    sl_exec_parts!
    sl_step
    iapply Hk
    isplitl [H0]; · iexact H0
    isplitl [H1]; · iexact H1
    isplitl [H2]; · iexact H2
    isplitl [H3]; · iexact H3
    isplitl [H4]; · iexact H4
    iexact H5

/-- The body run at a point off the diagonal: the partial sum of the diagonal is left as it was or, at a half's first point,
set to zero. -/
def runOff (c : Dev nD) (i : grid0.Coords)
    (e3 : ¬ k0_cond3 i = 1#1) (e4 : ¬ k0_cond4 i = 1#1) (e5 : ¬ k0_cond5 i = 1#1) (e6 : ¬ k0_cond6 i = 1#1) (e7 : ¬ k0_cond7 i = 1#1)
    (e8 : ¬ k0_cond8 i = 1#1) (e9 : ¬ k0_cond9 i = 1#1) (e10 : ¬ k0_cond10 i = 1#1) (e11 : ¬ k0_cond11 i = 1#1) (e12 : ¬ k0_cond12 i = 1#1)
    (e13 : ¬ k0_cond13 i = 1#1) (e14 : ¬ k0_cond14 i = 1#1) (e15 : ¬ k0_cond15 i = 1#1) (e16 : ¬ k0_cond16 i = 1#1) (e17 : ¬ k0_cond17 i = 1#1)
    (e18 : ¬ k0_cond18 i = 1#1) (e19 : ¬ k0_cond19 i = 1#1) (e20 : ¬ k0_cond20 i = 1#1) (e21 : ¬ k0_cond21 i = 1#1) (e22 : ¬ k0_cond22 i = 1#1)
    (M0 : Memref sig .tc .vmem S1024x512 .f32) (h0 : M0.IsWhole) (M1 : Memref sig .tc .vmem S1024x5x512 .f32) (h1 : M1.IsWhole)
    (M2 : Memref sig .tc .vmem S1x1x4096 .f32) (h2 : M2.IsWhole) (M3 : Memref sig .tc .vmem S1x5x8x2048 .f32) (h3 : M3.IsWhole)
    (M4 : Memref sig .tc .vmem S1x1x128 .f32) (h4 : M4.IsWhole) (M5 : Memref sig .tc .vmem S5x1024x512 .f32) (h5 : M5.IsWhole)
    (f0 : Bf (F := F) c M0) (f1 : Bf (F := F) c M1) (f2 : Bf (F := F) c M2) (f3 : Bf (F := F) c M3) (f4 : Bf (F := F) c M4)
    (f5 : Bf (F := F) c M5) :
    { W : Bf (F := F) c M2 × Bf (F := F) c M3 × Bf (F := F) c M4 × Bf (F := F) c M5 //
      ∀ (E : Set ℕ) (Q : PUnit → sProp 𝕄),
        iprop(pt c M0 f0 ∗ pt c M1 f1 ∗ pt c M2 f2 ∗ pt c M3 f3 ∗ pt c M4 f4 ∗ pt c M5 f5
          ∗ (iprop(pt c M0 f0 ∗ pt c M1 f1 ∗ pt c M2 W.1 ∗ pt c M3 W.2.1 ∗ pt c M4 W.2.2.1 ∗ pt c M5 W.2.2.2) -∗ Q ⟨⟩))
        ⊢ wp frame (wpE (defs₀ (F := F)) Variants.none c none) E
            (cc0__main_body i M0 h0 M1 h1 M2 h2 M3 h3 M4 h4 M5 h5) Q } := by
  refine ⟨⟨?_, ?_, ?_, ?_⟩, fun E Q => ?run⟩
  case run =>
    iintro ⟨H0, H1, H2, H3, H4, H5, Hk⟩
    sl_exec_parts!
    sl_step
    iapply Hk
    isplitl [H0]; · iexact H0
    isplitl [H1]; · iexact H1
    isplitl [H2]; · iexact H2
    isplitl [H3]; · iexact H3
    isplitl [H4]; · iexact H4
    iexact H5

end Cert.Proof.KI

end
-- ==== Proof.KI.Step.lean ====
module

public import proofs.«01_k».proof.Proof.KI.Run
public import Idealize.ShloMosaic.Lib.WritesUnit
public import Idealize.ShloMosaic.Lib.VecWindow
public import Idealize.ShloMosaic.Lib.Pointwise

/-!
  What one point of the main launch does to each staging buffer, as functions of the blocks read: the sums of one image
  half-block against the ten text half-blocks, the two column stores of each half-block, the row store, the diagonal.
  Everything here holds for any arithmetic.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI

variable {F : FTy → Type} [FloatOps F] [Named F]

/-! ## The blocks' halves -/

/-- Half `h` of the image block, scaled. -/
def im (X : Vec F S1024x512 .f32) : Fin 2 → FVec F S512x512 .f32
  | ⟨0, _⟩ => k0_pay9 fun x => X ((Rect.unit (s := S1024x512) ![0, 0] S512x512.size inb_S1024x512_S512x512_0_0).toLoadRect.idx x)
  | ⟨1, _⟩ => k0_pay9 fun x => X ((Rect.unit (s := S1024x512) ![512, 0] S512x512.size inb_S1024x512_S512x512_512_0).toLoadRect.idx x)

theorem tin (v : Fin 5) (h : Fin 2) : ∀ a, (![v.val, 512 * h.val, 0] : Fin 3 → ℕ) a + S1x512x512.size a ≤ S5x1024x512.size a := by
  revert v h; decide

/-- Half `h` of the staged texts' plane `v`. -/
def th (T : Vec F S5x1024x512 .f32) (v : Fin 5) (h : Fin 2) : Vec F S1x512x512 .f32 :=
  fun x => T ((Rect.unit (s := S5x1024x512) ![v.val, 512 * h.val, 0] S1x512x512.size (tin v h)).toLoadRect.idx x)

/-- The order in which the body takes the ten text half-blocks. -/
def ord : List (Fin 5 × Fin 2) := [(0, 0), (0, 1), (1, 0), (1, 1), (2, 0), (2, 1), (3, 0), (3, 1), (4, 0), (4, 1)]

/-- The similarities of one image half-block and one text half-block. -/
abbrev sim (m : FVec F S512x512 .f32) (B : Vec F S1x512x512 .f32) : FVec F S512x512 .f32 := k0_pay16 m B
/-- Their exponentials summed over the eight-row groups. -/
abbrev cs (m : FVec F S512x512 .f32) (B : Vec F S1x512x512 .f32) : FVec F S8x512 .f32 := k0_pay19 m B

/-- The exponentials of one image half-block against all ten text half-blocks, summed lane group by lane group. -/
def rs (m : FVec F S512x512 .f32) (T : Vec F S5x1024x512 .f32) : FVec F S512x128 .f32 :=
  ord.foldl (fun acc p => k0_pay18 m acc (th T p.1 p.2)) (broadcast S512x128 (Scalar.ofBits .f32 0x00000000#32))

/-- A column store: what was there if `b`, else zero, plus the new sums. -/
def colUpd (b : BitVec 1) (u : FVec F S8x512 .f32) (cur : Vec F S1x1x8x512 .f32) : FVec F S1x1x8x512 .f32 :=
  shapeCast S1x1x8x512 (addf (Scalar.select b (shapeCast S8x512 cur shapeCasts_S1x1x8x512_S8x512) (broadcast S8x512 (Scalar.ofBits .f32 0x00000000#32))) u)
    shapeCasts_S8x512_S1x1x8x512

/-! ## The stores -/

/-- Sublane `s` and lane `l` of plane `v`, half `h` of the column chunk of point `i`. -/
def yy (i : grid0.Coords) (v : Fin 5) (h : Fin 2) (s : Fin 8) (l : Fin 512) : S1x5x8x2048.Idx :=
  ix4 0 v s ⟨1024 * (i 1).val + 512 * h.val + l.val, by
    have h1 : (i 1).val < 2 := (i 1).isLt
    have := h.isLt; have := l.isLt; omega⟩

/-- Row `l` of half `h` of the row chunk of point `i`. -/
def rr (i : grid0.Coords) (h : Fin 2) (l : Fin 512) : S1x1x4096.Idx :=
  ix3 0 0 ⟨1024 * (i 2).val + 512 * h.val + l.val, by
    have h1 : (i 2).val < 4 := (i 2).isLt
    have := h.isLt; have := l.isLt; omega⟩

abbrev colOff (v : Fin 5) : grid0.Coords → BitVec 32 → Fin 4 → ℕ := match v with
  | ⟨0, _⟩ => k0_off1 | ⟨1, _⟩ => k0_off2 | ⟨2, _⟩ => k0_off3 | ⟨3, _⟩ => k0_off4 | ⟨4, _⟩ => k0_off5

theorem colOff_inb (v : Fin 5) (i : grid0.Coords) (h : Fin 2) :
    ∀ a, colOff v i (BitVec.ofNat 32 (512 * h.val)) a + S1x1x8x512.size a ≤ S1x5x8x2048.size a := match v with
  | ⟨0, _⟩ => k0_off1_inb i h | ⟨1, _⟩ => k0_off2_inb i h | ⟨2, _⟩ => k0_off3_inb i h | ⟨3, _⟩ => k0_off4_inb i h | ⟨4, _⟩ => k0_off5_inb i h

theorem colOff_eq (v : Fin 5) (i : grid0.Coords) (h : Fin 2) :
    colOff v i (BitVec.ofNat 32 (512 * h.val)) = ![0, v.val, 0, 1024 * (i 1).val + 512 * h.val] := by
  match v with
  | ⟨0, _⟩ => exact k0_off1_eq i h
  | ⟨1, _⟩ => exact k0_off2_eq i h
  | ⟨2, _⟩ => exact k0_off3_eq i h
  | ⟨3, _⟩ => exact k0_off4_eq i h
  | ⟨4, _⟩ => exact k0_off5_eq i h

abbrev colRect (i : grid0.Coords) (v : Fin 5) (h : Fin 2) : Rect S1x5x8x2048 :=
  Rect.unit (s := S1x5x8x2048) (colOff v i (BitVec.ofNat 32 (512 * h.val))) S1x1x8x512.size (colOff_inb v i h)

variable {c : Dev nD}

/-- The ten column stores of the first image half-block. -/
def col0 (i : grid0.Coords) (M3 : Memref sig .tc .vmem S1x5x8x2048 .f32) (f3 : Bf (F := F) c M3) (X : Vec F S1024x512 .f32) (T : Vec F S5x1024x512 .f32) :
    List (View.Piece (Elt F) S1x5x8x2048 .f32) :=
  ord.foldl (fun L p => ⟨colRect i p.1 p.2, colUpd (Scalar.ori (Scalar.cmpi .sgt (BitVec.ofNat 32 (i 2).val) 0#32) 0#1) (cs (im X 0) (th T p.1 p.2))
    (M3.view.readAt (Elt F) (colRect i p.1 p.2).toLoadRect f3)⟩ :: L) []

/-- Those and the ten of the second, each over what the first left. -/
def col1 (i : grid0.Coords) (M3 : Memref sig .tc .vmem S1x5x8x2048 .f32) (f3 : Bf (F := F) c M3) (X : Vec F S1024x512 .f32) (T : Vec F S5x1024x512 .f32) :
    List (View.Piece (Elt F) S1x5x8x2048 .f32) :=
  ord.foldl (fun L p => ⟨colRect i p.1 p.2, colUpd (Scalar.ori (Scalar.cmpi .sgt (BitVec.ofNat 32 (i 2).val) 0#32) 1#1) (cs (im X 1) (th T p.1 p.2))
    (M3.view.readCov L (colRect i p.1 p.2).toLoadRect)⟩ :: L) (col0 i M3 f3 X T)

abbrev rowRect (i : grid0.Coords) (h : Fin 2) : Rect S1x1x4096 :=
  Rect.unit (s := S1x1x4096) (k0_off6 i (BitVec.ofNat 32 (512 * h.val))) S1x1x512.size (k0_off6_inb i h)

/-- The two row stores. -/
def row1 (i : grid0.Coords) (M2 : Memref sig .tc .vmem S1x1x4096 .f32) (f2 : Bf (F := F) c M2) (X : Vec F S1024x512 .f32) (T : Vec F S5x1024x512 .f32) :
    List (View.Piece (Elt F) S1x1x4096 .f32) :=
  [1, 0].map fun h : Fin 2 => ⟨rowRect i h, k0_pay70 (BitVec.ofNat 32 (i 1).val) (rs (im X h) T) (M2.view.readAt (Elt F) (rowRect i h).toLoadRect f2)⟩

/-- The diagonal's ten additions at a point on the grid's diagonal. -/
def diagOn (X : Vec F S1024x512 .f32) (T : Vec F S5x1024x512 .f32) (d : Vec F S1x1x128 .f32) : Vec F S1x1x128 .f32 :=
  ([0, 1] : List (Fin 2)).foldl (fun acc h => ([0, 1, 2, 3, 4] : List (Fin 5)).foldl (fun acc v => k0_pay21 (sim (im X h) (th T v h)) acc) acc) d

variable (i : grid0.Coords)
    (M0 : Memref sig .tc .vmem S1024x512 .f32) (M1 : Memref sig .tc .vmem S1024x5x512 .f32)
    (M2 : Memref sig .tc .vmem S1x1x4096 .f32) (M3 : Memref sig .tc .vmem S1x5x8x2048 .f32)
    (M4 : Memref sig .tc .vmem S1x1x128 .f32) (M5 : Memref sig .tc .vmem S5x1024x512 .f32)
    (f0 : Bf (F := F) c M0) (f1 : Bf (F := F) c M1) (f2 : Bf (F := F) c M2) (f3 : Bf (F := F) c M3) (f4 : Bf (F := F) c M4)
    (f5 : Bf (F := F) c M5)

/-- The scratch's contents once the texts are staged (at a half's first image block) or as they were. -/
def scr : Bf (F := F) c M5 :=
  if runOn.sl.v7 i = 1#1 then M5.view.writes (Elt F) f5 (
    [⟨Rect.unit (s := S5x1024x512) ![4, 0, 0] S1x1024x512.size inb_S5x1024x512_S1x1024x512_4_0_0, runOn.sl.v774 c M1 f1⟩,
     ⟨Rect.unit (s := S5x1024x512) ![3, 0, 0] S1x1024x512.size inb_S5x1024x512_S1x1024x512_3_0_0, runOn.sl.v769 c M1 f1⟩,
     ⟨Rect.unit (s := S5x1024x512) ![2, 0, 0] S1x1024x512.size inb_S5x1024x512_S1x1024x512_2_0_0, runOn.sl.v764 c M1 f1⟩,
     ⟨Rect.unit (s := S5x1024x512) ![1, 0, 0] S1x1024x512.size inb_S5x1024x512_S1x1024x512_1_0_0, runOn.sl.v759 c M1 f1⟩,
     ⟨Rect.unit (s := S5x1024x512) ![0, 0, 0] S1x1024x512.size inb_S5x1024x512_S1x1024x512_0_0_0, runOn.sl.v754 c M1 f1⟩]) else f5

omit [FloatOps F] [Named F] in
theorem toIdx_col (i : grid0.Coords) (v : Fin 5) (h : Fin 2) (s : Fin 8) (l : Fin 512) : (colRect i v h).toLoadRect.idx (ix4 0 0 s l) = yy i v h s l := by
  have e := colOff_eq v i h
  funext a
  refine Fin.ext ?_
  show colOff v i (BitVec.ofNat 32 (512 * h.val)) a + 1 * _ = _
  rw [e]
  match a with
  | ⟨0, _⟩ => rfl
  | ⟨1, _⟩ => show v.val + 1 * 0 = v.val; omega
  | ⟨2, _⟩ => show 0 + 1 * s.val = s.val; omega
  | ⟨3, _⟩ => show 1024 * (i 1).val + 512 * h.val + 1 * l.val = 1024 * (i 1).val + 512 * h.val + l.val; omega

/-- One column store read at an index of the point's chunk. -/
theorem col_cons (L : List (View.Piece (Elt F) S1x5x8x2048 .f32)) (g : M3.view.ty.Contents (Elt F)) (v : Fin 5) (h : Fin 2)
    (w : S1x1x8x512.Idx → Elt F .f32) (v0 : Fin 5) (h0 : Fin 2) (s : Fin 8) (l : Fin 512) :
    M3.view.read (Elt F) (M3.view.writes (Elt F) g (⟨colRect i v h, w⟩ :: L)) (yy i v0 h0 s l)
      = if v = v0 ∧ h = h0 then w (ix4 0 0 s l) else M3.view.read (Elt F) (M3.view.writes (Elt F) g L) (yy i v0 h0 s l) := by
  split
  · next e =>
    obtain ⟨rfl, rfl⟩ := e
    rw [← toIdx_col]
    exact View.read_writes_cons_emb M3.view g (colRect i v h) w L (ix4 0 0 s l)
  · next e =>
    have hv := v.isLt; have hv0 := v0.isLt; have hh := h.isLt; have hh0 := h0.isLt; have hl := l.isLt
    rcases not_and_or.mp e with e | e
    · refine View.read_writes_cons_unit_of_not_mem M3.view g _ w L _ (colOff_eq v i h) 1 ?_
      show v0.val < v.val ∨ v.val + 1 ≤ v0.val
      have : v.val ≠ v0.val := fun q => e (Fin.ext q)
      omega
    · refine View.read_writes_cons_unit_of_not_mem M3.view g _ w L _ (colOff_eq v i h) 3 ?_
      show 1024 * (i 1).val + 512 * h0.val + l.val < 1024 * (i 1).val + 512 * h.val ∨ 1024 * (i 1).val + 512 * h.val + 512 ≤ 1024 * (i 1).val + 512 * h0.val + l.val
      have : h.val ≠ h0.val := fun q => e (Fin.ext q)
      omega

/-- One column store leaves every other column as it was. -/
theorem col_cons_off (L : List (View.Piece (Elt F) S1x5x8x2048 .f32)) (g : M3.view.ty.Contents (Elt F)) (v : Fin 5) (h : Fin 2)
    (w : S1x1x8x512.Idx → Elt F .f32) (y : S1x5x8x2048.Idx) (hy : (y 3).val / 1024 ≠ (i 1).val) :
    M3.view.read (Elt F) (M3.view.writes (Elt F) g (⟨colRect i v h, w⟩ :: L)) y = M3.view.read (Elt F) (M3.view.writes (Elt F) g L) y := by
  have hh := h.isLt
  refine View.read_writes_cons_unit_of_not_mem M3.view g _ w L _ (colOff_eq v i h) 3 ?_
  show (y 3).val < 1024 * (i 1).val + 512 * h.val ∨ 1024 * (i 1).val + 512 * h.val + 512 ≤ (y 3).val
  omega

theorem colUpd_apply (b : BitVec 1) (u : FVec F S8x512 .f32) (cur : Vec F S1x1x8x512 .f32) (s : Fin 8) (l : Fin 512) :
    colUpd b u cur (ix4 0 0 s l) = FloatOps.addf (Scalar.select b (cur (ix4 0 0 s l)) (Scalar.ofBits .f32 0x00000000#32)) (u (ix2 s l)) := by
  pointwise [colUpd]

/-- "This point is not the first of its half along the images." -/
abbrev later (n : ℕ) : BitVec 1 := Scalar.cmpi .sgt (BitVec.ofNat 32 n) 0#32

theorem ori_zero (b : BitVec 1) : Scalar.ori b 0#1 = b := by revert b; decide
theorem ori_one (b : BitVec 1) : Scalar.ori b 1#1 = 1#1 := by revert b; decide

/-- A run of column stores in distinct places, each a function of what a reading `val` of the earlier ones gives at its own
place: at each place stored to, that function of `val` before the run. -/
theorem fold_read (g : M3.view.ty.Contents (Elt F)) (pay : List (View.Piece (Elt F) S1x5x8x2048 .f32) → Fin 5 → Fin 2 → S1x1x8x512.Idx → Elt F .f32)
    (φ : Fin 5 → Fin 2 → Fin 8 → Fin 512 → F .f32 → F .f32) (val : List (View.Piece (Elt F) S1x5x8x2048 .f32) → S1x5x8x2048.Idx → F .f32)
    (hp : ∀ L v h s l, pay L v h (ix4 0 0 s l) = φ v h s l (val L (yy i v h s l)))
    (hv : ∀ L v h w v0 h0 s l, ¬ (v = v0 ∧ h = h0) → val (⟨colRect i v h, w⟩ :: L) (yy i v0 h0 s l) = val L (yy i v0 h0 s l))
    (v : Fin 5) (h : Fin 2) (s : Fin 8) (l : Fin 512) : ∀ (o : List (Fin 5 × Fin 2)) (L : List (View.Piece (Elt F) S1x5x8x2048 .f32)), o.Nodup →
      M3.view.read (Elt F) (M3.view.writes (Elt F) g (o.foldl (fun L p => ⟨colRect i p.1 p.2, pay L p.1 p.2⟩ :: L) L)) (yy i v h s l)
        = if (v, h) ∈ o then φ v h s l (val L (yy i v h s l)) else M3.view.read (Elt F) (M3.view.writes (Elt F) g L) (yy i v h s l) := by
  intro o
  induction o with
  | nil => intro L _; rfl
  | cons p o ih =>
    intro L hn
    obtain ⟨hp', hn'⟩ := List.nodup_cons.mp hn
    rw [List.foldl_cons, ih _ hn']
    by_cases e : p.1 = v ∧ p.2 = h
    · have ep : p = (v, h) := Prod.ext e.1 e.2
      rw [if_neg (ep ▸ hp'), if_pos (List.mem_cons.mpr (.inl ep.symm)), col_cons, if_pos e, hp, e.1, e.2]
    · have ep : ¬ (v, h) = p := fun q => e ⟨(congrArg Prod.fst q).symm, (congrArg Prod.snd q).symm⟩
      rw [hv _ _ _ _ _ _ _ _ e, col_cons, if_neg e]
      simp only [List.mem_cons, ep, false_or]

theorem ord_nodup : ord.Nodup := by decide
theorem mem_ord (v : Fin 5) (h : Fin 2) : (v, h) ∈ ord := by revert v h; decide

/-- The column buffer after the point, in the point's chunk. -/
theorem col_read (X : Vec F S1024x512 .f32) (T : Vec F S5x1024x512 .f32) (v : Fin 5) (h : Fin 2) (s : Fin 8) (l : Fin 512) :
    M3.view.read (Elt F) (M3.view.writes (Elt F) f3 (col1 i M3 f3 X T)) (yy i v h s l)
      = FloatOps.addf (FloatOps.addf (Scalar.select (later (i 2).val) (M3.view.read (Elt F) f3 (yy i v h s l)) (Scalar.ofBits .f32 0x00000000#32))
          (cs (im X 0) (th T v h) (ix2 s l))) (cs (im X 1) (th T v h) (ix2 s l)) := by
  unfold col1
  refine (fold_read i M3 f3 (fun L v h => colUpd (Scalar.ori (Scalar.cmpi .sgt (BitVec.ofNat 32 (i 2).val) 0#32) 1#1) (cs (im X 1) (th T v h))
    (M3.view.readCov L (colRect i v h).toLoadRect)) (fun v h s l x => FloatOps.addf x (cs (im X 1) (th T v h) (ix2 s l)))
    (fun L => M3.view.read (Elt F) (M3.view.writes (Elt F) M3.view.junk L)) (fun L v h s l => ?_) (fun L v h w v0 h0 s l e => ?_)
    v h s l ord _ ord_nodup).trans ?_
  · rw [colUpd_apply, ori_one, ValueIdx.select_one, ← toIdx_col]; rfl
  · rw [col_cons, if_neg e]
  rw [if_pos (mem_ord v h)]
  congr 1
  unfold col0
  refine (fold_read i M3 _ (fun L v h => colUpd (Scalar.ori (Scalar.cmpi .sgt (BitVec.ofNat 32 (i 2).val) 0#32) 0#1) (cs (im X 0) (th T v h))
    (M3.view.readAt (Elt F) (colRect i v h).toLoadRect f3)) (fun v h s l x => FloatOps.addf (Scalar.select (later (i 2).val) x (Scalar.ofBits .f32 0x00000000#32)) (cs (im X 0) (th T v h) (ix2 s l)))
    (fun _ => M3.view.read (Elt F) f3) (fun L v h s l => ?_) (fun L v h w v0 h0 s l e => rfl)
    v h s l ord _ ord_nodup).trans ?_
  · rw [colUpd_apply, ori_zero, ← toIdx_col]; rfl
  rw [if_pos (mem_ord v h)]

/-- The column buffer after the point, outside the point's chunk. -/
theorem col_read_off (X : Vec F S1024x512 .f32) (T : Vec F S5x1024x512 .f32) (y : S1x5x8x2048.Idx) (hy : (y 3).val / 1024 ≠ (i 1).val) :
    M3.view.read (Elt F) (M3.view.writes (Elt F) f3 (col1 i M3 f3 X T)) y = M3.view.read (Elt F) f3 y := by
  unfold col1 col0 ord
  simp only [List.foldl, col_cons_off i M3 _ _ _ _ _ y hy]
  rfl

/-! ## The rows -/

theorem toIdx_row (i : grid0.Coords) (h : Fin 2) (l : Fin 512) : (rowRect i h).toLoadRect.idx (ix3 0 0 l) = rr i h l := by
  have e := k0_off6_eq i h
  funext a
  refine Fin.ext ?_
  show k0_off6 i (BitVec.ofNat 32 (512 * h.val)) a + 1 * _ = _
  rw [e]
  match a with
  | ⟨0, _⟩ => rfl
  | ⟨1, _⟩ => rfl
  | ⟨2, _⟩ => show 1024 * (i 2).val + 512 * h.val + 1 * l.val = 1024 * (i 2).val + 512 * h.val + l.val; omega

/-- The row sums of one image half-block over the point's texts. -/
def rsum (m : FVec F S512x512 .f32) (T : Vec F S5x1024x512 .f32) : FVec F S512 .f32 :=
  multiReduction .add [1] S512 (rs m T) 0x00000000#32 reduces_S512x128_S512 (.inl rfl) rfl

theorem pay70_apply (b : BitVec 32) (u : FVec F S512x128 .f32) (cur : Vec F S1x1x512 .f32) (l : Fin 512) :
    k0_pay70 b u cur (ix3 0 0 l) = FloatOps.addf (Scalar.select (Scalar.cmpi .sgt b 0#32) (cur (ix3 0 0 l)) (Scalar.ofBits .f32 0x00000000#32))
      (multiReduction .add [1] S512 u 0x00000000#32 reduces_S512x128_S512 (.inl rfl) rfl (ix1 l)) := by
  have e : ∀ (w : FVec F S512 .f32), shapeCast S1x1x512 w shapeCasts_S512_S1x1x512 (ix3 0 0 l) = w (ix1 l) := fun w => by pointwise
  have e' : shapeCast S512 cur shapeCasts_S1x1x512_S512 (ix1 l) = cur (ix3 0 0 l) := by pointwise
  refine (e (addf (Scalar.select (Scalar.cmpi .sgt b 0#32) (shapeCast S512 cur shapeCasts_S1x1x512_S512) (broadcast S512 (Scalar.ofBits .f32 0x00000000#32)))
    (multiReduction .add [1] S512 u 0x00000000#32 reduces_S512x128_S512 (.inl rfl) rfl))).trans ?_
  show FloatOps.addf (Scalar.select (Scalar.cmpi .sgt b 0#32) (shapeCast S512 cur shapeCasts_S1x1x512_S512) (broadcast S512 (Scalar.ofBits .f32 0x00000000#32)) (ix1 l)) _ = _
  congr 1
  unfold Scalar.select
  split <;> first | exact e' | rfl

/-- The row buffer after the point, in the point's chunk. -/
theorem row_read (X : Vec F S1024x512 .f32) (T : Vec F S5x1024x512 .f32) (h : Fin 2) (l : Fin 512) :
    M2.view.read (Elt F) (M2.view.writes (Elt F) f2 (row1 i M2 f2 X T)) (rr i h l)
      = FloatOps.addf (Scalar.select (later (i 1).val) (M2.view.read (Elt F) f2 (rr i h l)) (Scalar.ofBits .f32 0x00000000#32)) (rsum (im X h) T (ix1 l)) := by
  have hl := l.isLt
  unfold row1
  simp only [List.map]
  match h with
  | ⟨1, _⟩ =>
    rw [← toIdx_row]
    refine (View.read_writes_cons_emb M2.view f2 (rowRect i 1) _ _ (ix3 0 0 l)).trans ?_
    rw [pay70_apply]; rfl
  | ⟨0, _⟩ =>
    refine (View.read_writes_cons_unit_of_not_mem M2.view f2 _ _ _ _ (k0_off6_eq i 1) 2 ?_).trans ?_
    · left; show 1024 * (i 2).val + 512 * 0 + l.val < 1024 * (i 2).val + 512 * 1; omega
    rw [← toIdx_row]
    refine (View.read_writes_cons_emb M2.view f2 (rowRect i 0) _ _ (ix3 0 0 l)).trans ?_
    rw [pay70_apply]; rfl

/-- The row buffer after the point, outside the point's chunk. -/
theorem row_read_off (X : Vec F S1024x512 .f32) (T : Vec F S5x1024x512 .f32) (y : S1x1x4096.Idx) (hy : (y 2).val / 1024 ≠ (i 2).val) :
    M2.view.read (Elt F) (M2.view.writes (Elt F) f2 (row1 i M2 f2 X T)) y = M2.view.read (Elt F) f2 y := by
  unfold row1
  simp only [List.map]
  refine (View.read_writes_cons_unit_of_not_mem M2.view f2 _ _ _ _ (k0_off6_eq i 1) 2 ?_).trans
    ((View.read_writes_cons_unit_of_not_mem M2.view f2 _ _ _ _ (k0_off6_eq i 0) 2 ?_).trans rfl)
  · show (y 2).val < 1024 * (i 2).val + 512 * 1 ∨ 1024 * (i 2).val + 512 * 1 + 512 ≤ (y 2).val; omega
  · show (y 2).val < 1024 * (i 2).val + 512 * 0 ∨ 1024 * (i 2).val + 512 * 0 + 512 ≤ (y 2).val; omega

end Cert.Proof.KI

end
-- ==== Proof.KI.Body.lean ====
module

public import proofs.«01_k».proof.Proof.KI.Step

/-!
  The main launch's body at one point, in closed form: from the image block, the text block, the two running results, the
  running diagonal and the scratch, whatever the running buffers hold, it leaves them as `RowRel`, `ColRel`, `diagStep` and
  `staged` say.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The scratch -/

/-- A text block with its first two axes exchanged. -/
def flip (X : Vec F S1024x5x512 .f32) : Vec F S5x1024x512 .f32 := fun y => X (ix3 (y 1) (y 0) (y 2))

/-- What the scratch holds after the staging step of point `i`. -/
def staged (i : grid0.Coords) (X : Vec F S1024x5x512 .f32) (T : Vec F S5x1024x512 .f32) : Vec F S5x1024x512 .f32 :=
  if (i 2).val = 0 then flip X else T

theorem v7_iff : ∀ i : grid0.Coords, runOn.sl.v7 i = 1#1 ↔ (i 2).val = 0 := by decide +kernel

variable {c : Dev nD}

theorem pay3_apply (X : Vec F S1024x1x512 .f32) (r : Fin 1024) (d : Fin 512) : k0_pay3 X (ix3 0 r d) = X (ix3 r 0 d) := by
  pointwise [k0_pay3]

theorem scr_read (i : grid0.Coords) (M1 : Memref sig .tc .vmem S1024x5x512 .f32) (M5 : Memref sig .tc .vmem S5x1024x512 .f32)
    (f1 : Bf (F := F) c M1) (f5 : Bf (F := F) c M5) :
    M5.view.read (Elt F) (scr i M1 M5 f1 f5) = staged i (M1.view.read (Elt F) f1) (M5.view.read (Elt F) f5) := by
  unfold scr staged
  by_cases h : (i 2).val = 0
  · rw [if_pos ((v7_iff i).mpr h), if_pos h]
    funext y
    refine View.read_writes_apply_of_pieces M5.view f5 (flip (M1.view.read (Elt F) f1)) _ ?_ y ?_
    · have key : ∀ (v : Fin 5) (inb : ∀ a, (![v.val, 0, 0] : Fin 3 → ℕ) a + S1x1024x512.size a ≤ S5x1024x512.size a)
          (inb' : ∀ a, (![0, v.val, 0] : Fin 3 → ℕ) a + S1024x1x512.size a ≤ S1024x5x512.size a) (x : S1x1024x512.Idx),
          k0_pay3 (M1.view.readAt (Elt F) (Rect.unit (s := S1024x5x512) ![0, v.val, 0] S1024x1x512.size inb').toLoadRect f1) x
            = flip (M1.view.read (Elt F) f1) ((Rect.unit (s := S5x1024x512) ![v.val, 0, 0] S1x1024x512.size inb).emb x) := by
        intro v inb inb' x
        obtain ⟨z, r, d, rfl⟩ : ∃ z r d, x = ix3 z r d := ⟨x 0, x 1, x 2, by simp⟩
        obtain rfl : z = 0 := Fin.ext (by omega)
        rw [pay3_apply]
        unfold flip
        rw [View.readAt_apply]
        congr 1
        funext a
        refine Fin.ext ?_
        match a with
        | ⟨0, _⟩ => show 0 + 1 * r.val = 0 + 1 * r.val; rfl
        | ⟨1, _⟩ => show v.val + 1 * 0 = v.val + 1 * 0; rfl
        | ⟨2, _⟩ => show 0 + 1 * d.val = 0 + 1 * d.val; rfl
      intro p hp
      fin_cases hp
      · exact key 4 inb_S5x1024x512_S1x1024x512_4_0_0 inb_S1024x5x512_S1024x1x512_0_4_0
      · exact key 3 inb_S5x1024x512_S1x1024x512_3_0_0 inb_S1024x5x512_S1024x1x512_0_3_0
      · exact key 2 inb_S5x1024x512_S1x1024x512_2_0_0 inb_S1024x5x512_S1024x1x512_0_2_0
      · exact key 1 inb_S5x1024x512_S1x1024x512_1_0_0 inb_S1024x5x512_S1024x1x512_0_1_0
      · exact key 0 inb_S5x1024x512_S1x1024x512_0_0_0 inb_S1024x5x512_S1024x1x512_0_0_0
    · have hy : ∀ (v : Fin 5) (inb : ∀ a, (![v.val, 0, 0] : Fin 3 → ℕ) a + S1x1024x512.size a ≤ S5x1024x512.size a), (y 0).val = v.val →
          y ∈ (Rect.unit (s := S5x1024x512) ![v.val, 0, 0] S1x1024x512.size inb).set := by
        intro v inb e
        rw [Rect.mem_set_unit]
        have h1 : (y 1).val < 1024 := (y 1).isLt
        have h2 : (y 2).val < 512 := (y 2).isLt
        intro a
        match a with
        | ⟨0, _⟩ => show v.val ≤ (y 0).val ∧ (y 0).val < v.val + 1; omega
        | ⟨1, _⟩ => show 0 ≤ (y 1).val ∧ (y 1).val < 0 + 1024; omega
        | ⟨2, _⟩ => show 0 ≤ (y 2).val ∧ (y 2).val < 0 + 512; omega
      have h0 : (y 0).val < 5 := (y 0).isLt
      have h5 : (y 0).val = 4 ∨ (y 0).val = 3 ∨ (y 0).val = 2 ∨ (y 0).val = 1 ∨ (y 0).val = 0 := by omega
      rcases h5 with e | e | e | e | e
      · exact ⟨_, .head _, hy 4 inb_S5x1024x512_S1x1024x512_4_0_0 e⟩
      · exact ⟨_, .tail _ (.head _), hy 3 inb_S5x1024x512_S1x1024x512_3_0_0 e⟩
      · exact ⟨_, .tail _ (.tail _ (.head _)), hy 2 inb_S5x1024x512_S1x1024x512_2_0_0 e⟩
      · exact ⟨_, .tail _ (.tail _ (.tail _ (.head _))), hy 1 inb_S5x1024x512_S1x1024x512_1_0_0 e⟩
      · exact ⟨_, .tail _ (.tail _ (.tail _ (.tail _ (.head _)))), hy 0 inb_S5x1024x512_S1x1024x512_0_0_0 e⟩
  · rw [if_neg fun q => h ((v7_iff i).mp q), if_neg h]

/-! ## What the point does -/

/-- The row buffer before (`Y`) and after (`Z`) point `i`. -/
def RowRel (i : grid0.Coords) (X : Vec F S1024x512 .f32) (T : Vec F S5x1024x512 .f32) (Y Z : Vec F S1x1x4096 .f32) : Prop :=
  (∀ (h : Fin 2) (l : Fin 512), Z (rr i h l)
    = FloatOps.addf (Scalar.select (later (i 1).val) (Y (rr i h l)) (Scalar.ofBits .f32 0x00000000#32)) (rsum (im X h) T (ix1 l)))
  ∧ ∀ y, (y 2).val / 1024 ≠ (i 2).val → Z y = Y y

/-- The column buffer before (`Y`) and after (`Z`) point `i`. -/
def ColRel (i : grid0.Coords) (X : Vec F S1024x512 .f32) (T : Vec F S5x1024x512 .f32) (Y Z : Vec F S1x5x8x2048 .f32) : Prop :=
  (∀ (v : Fin 5) (h : Fin 2) (s : Fin 8) (l : Fin 512), Z (yy i v h s l)
    = FloatOps.addf (FloatOps.addf (Scalar.select (later (i 2).val) (Y (yy i v h s l)) (Scalar.ofBits .f32 0x00000000#32))
          (cs (im X 0) (th T v h) (ix2 s l))) (cs (im X 1) (th T v h) (ix2 s l)))
  ∧ ∀ y, (y 3).val / 1024 ≠ (i 1).val → Z y = Y y

/-- Point `i` is on the grid's diagonal: its image block and its text block have the same rows. -/
abbrev On (i : grid0.Coords) : Prop := (i 2).val = 2 * (i 0).val + (i 1).val

/-- The diagonal buffer after point `i`. -/
def diagStep (i : grid0.Coords) (X : Vec F S1024x512 .f32) (T : Vec F S5x1024x512 .f32) (Y : Vec F S1x1x128 .f32) : Vec F S1x1x128 .f32 :=
  let Y' := if (i 1).val = 0 ∧ (i 2).val = 0 then k0_pay8 else Y
  if On i then diagOn X T Y' else Y'

theorem cond1_iff : ∀ i : grid0.Coords, k0_cond1 i = 1#1 ↔ (i 1).val = 0 ∧ (i 2).val = 0 := by decide +kernel

/-- On the diagonal the body adds exactly the pairs of equal halves. -/
theorem on_facts : ∀ i : grid0.Coords, On i →
    (k0_cond3 i = 1#1 ∧ ¬ k0_cond4 i = 1#1 ∧ k0_cond5 i = 1#1 ∧ ¬ k0_cond6 i = 1#1 ∧ k0_cond7 i = 1#1
      ∧ ¬ k0_cond8 i = 1#1 ∧ k0_cond9 i = 1#1 ∧ ¬ k0_cond10 i = 1#1 ∧ k0_cond11 i = 1#1 ∧ ¬ k0_cond12 i = 1#1)
    ∧ (¬ k0_cond13 i = 1#1 ∧ k0_cond14 i = 1#1 ∧ ¬ k0_cond15 i = 1#1 ∧ k0_cond16 i = 1#1 ∧ ¬ k0_cond17 i = 1#1
      ∧ k0_cond18 i = 1#1 ∧ ¬ k0_cond19 i = 1#1 ∧ k0_cond20 i = 1#1 ∧ ¬ k0_cond21 i = 1#1 ∧ k0_cond22 i = 1#1) := by decide +kernel

/-- Off it the body adds nothing. -/
theorem off_facts : ∀ i : grid0.Coords, ¬ On i →
    (¬ k0_cond3 i = 1#1 ∧ ¬ k0_cond4 i = 1#1 ∧ ¬ k0_cond5 i = 1#1 ∧ ¬ k0_cond6 i = 1#1 ∧ ¬ k0_cond7 i = 1#1
      ∧ ¬ k0_cond8 i = 1#1 ∧ ¬ k0_cond9 i = 1#1 ∧ ¬ k0_cond10 i = 1#1 ∧ ¬ k0_cond11 i = 1#1 ∧ ¬ k0_cond12 i = 1#1)
    ∧ (¬ k0_cond13 i = 1#1 ∧ ¬ k0_cond14 i = 1#1 ∧ ¬ k0_cond15 i = 1#1 ∧ ¬ k0_cond16 i = 1#1 ∧ ¬ k0_cond17 i = 1#1
      ∧ ¬ k0_cond18 i = 1#1 ∧ ¬ k0_cond19 i = 1#1 ∧ ¬ k0_cond20 i = 1#1 ∧ ¬ k0_cond21 i = 1#1 ∧ ¬ k0_cond22 i = 1#1) := by decide +kernel

section Run

variable (i : grid0.Coords)
    (M0 : Memref sig .tc .vmem S1024x512 .f32) (h0 : M0.IsWhole) (M1 : Memref sig .tc .vmem S1024x5x512 .f32) (h1 : M1.IsWhole)
    (M2 : Memref sig .tc .vmem S1x1x4096 .f32) (h2 : M2.IsWhole) (M3 : Memref sig .tc .vmem S1x5x8x2048 .f32) (h3 : M3.IsWhole)
    (M4 : Memref sig .tc .vmem S1x1x128 .f32) (h4 : M4.IsWhole) (M5 : Memref sig .tc .vmem S5x1024x512 .f32) (h5 : M5.IsWhole)
    (f0 : Bf (F := F) c M0) (f1 : Bf (F := F) c M1) (f2 : Bf (F := F) c M2) (f3 : Bf (F := F) c M3) (f4 : Bf (F := F) c M4)
    (f5 : Bf (F := F) c M5)

/-- The diagonal buffer once zeroed at a half's first point. -/
def dz : Bf (F := F) c M4 :=
  if k0_cond1 i = 1#1 then M4.view.writes (Elt F) f4 [⟨Rect.unit (s := S1x1x128) ![0, 0, 0] S1x1x128.size inb_S1x1x128_S1x1x128_0_0_0, k0_pay8⟩] else f4

theorem dz_read : M4.view.read (Elt F) (dz i M4 f4) = if (i 1).val = 0 ∧ (i 2).val = 0 then k0_pay8 else M4.view.read (Elt F) f4 := by
  unfold dz
  by_cases h : (i 1).val = 0 ∧ (i 2).val = 0
  · rw [if_pos ((cond1_iff i).mpr h), if_pos h]
    funext y
    exact View.read_writes_cons_unit_of_mem M4.view f4 _ _ [] y y rfl (fun a => by match a with
      | ⟨0, _⟩ => exact (Nat.zero_add _).symm
      | ⟨1, _⟩ => exact (Nat.zero_add _).symm
      | ⟨2, _⟩ => exact (Nat.zero_add _).symm)
  · rw [if_neg fun q => h ((cond1_iff i).mp q), if_neg h]

/-- A load of the whole diagonal buffer. -/
theorem full_load (g : Bf (F := F) c M4) :
    M4.view.readAt (Elt F) (Rect.unit (s := S1x1x128) ![0, 0, 0] S1x1x128.size inb_S1x1x128_S1x1x128_0_0_0).toLoadRect g = M4.view.read (Elt F) g :=
  funext fun x => congrArg (M4.view.read (Elt F) g) (funext fun a => Fin.ext (by match a with
    | ⟨0, _⟩ => show 0 + 1 * (x 0).val = (x 0).val; omega
    | ⟨1, _⟩ => show 0 + 1 * (x 1).val = (x 1).val; omega
    | ⟨2, _⟩ => show 0 + 1 * (x 2).val = (x 2).val; omega))

/-- A store of the whole diagonal buffer, loaded back. -/
theorem full_cov (w : S1x1x128.Idx → Elt F .f32) (L : List (View.Piece (Elt F) S1x1x128 .f32)) :
    M4.view.readCov (⟨Rect.unit (s := S1x1x128) ![0, 0, 0] S1x1x128.size inb_S1x1x128_S1x1x128_0_0_0, w⟩ :: L)
      (Rect.unit (s := S1x1x128) ![0, 0, 0] S1x1x128.size inb_S1x1x128_S1x1x128_0_0_0).toLoadRect = w :=
  View.readCov_full M4.view _ _ w L

/-- One addition stored over what the stores `L` left. -/
def dst (L : List (View.Piece (Elt F) S1x1x128 .f32)) (u : FVec F S512x512 .f32) : List (View.Piece (Elt F) S1x1x128 .f32) :=
  ⟨Rect.unit (s := S1x1x128) ![0, 0, 0] S1x1x128.size inb_S1x1x128_S1x1x128_0_0_0, k0_pay21 u
    (M4.view.readCov L (Rect.unit (s := S1x1x128) ![0, 0, 0] S1x1x128.size inb_S1x1x128_S1x1x128_0_0_0).toLoadRect)⟩ :: L

theorem dst_fold : ∀ (us : List (FVec F S512x512 .f32)) (L : List (View.Piece (Elt F) S1x1x128 .f32)) (x : Vec F S1x1x128 .f32),
    M4.view.readCov L (Rect.unit (s := S1x1x128) ![0, 0, 0] S1x1x128.size inb_S1x1x128_S1x1x128_0_0_0).toLoadRect = x →
    M4.view.readCov (us.foldl (dst M4) L) (Rect.unit (s := S1x1x128) ![0, 0, 0] S1x1x128.size inb_S1x1x128_S1x1x128_0_0_0).toLoadRect
      = us.foldl (fun x u => k0_pay21 u x) x
  | [], _, _, h => h
  | u :: us, L, x, h => by
    rw [List.foldl_cons, List.foldl_cons]
    refine dst_fold us _ _ ?_
    unfold dst
    rw [full_cov, h]

/-- The scores the ten additions read. -/
def sims (X : Vec F S1024x512 .f32) (T : Vec F S5x1024x512 .f32) : List (FVec F S512x512 .f32) :=
  [sim (im X 0) (th T 1 0), sim (im X 0) (th T 2 0), sim (im X 0) (th T 3 0), sim (im X 0) (th T 4 0),
    sim (im X 1) (th T 0 1), sim (im X 1) (th T 1 1), sim (im X 1) (th T 2 1), sim (im X 1) (th T 3 1), sim (im X 1) (th T 4 1)]

/-- The ten additions' stores, newest first. -/
def diagL (X : Vec F S1024x512 .f32) (T : Vec F S5x1024x512 .f32) (d : Vec F S1x1x128 .f32) : List (View.Piece (Elt F) S1x1x128 .f32) :=
  (sims X T).foldl (dst M4) [⟨Rect.unit (s := S1x1x128) ![0, 0, 0] S1x1x128.size inb_S1x1x128_S1x1x128_0_0_0, k0_pay21 (sim (im X 0) (th T 0 0)) d⟩]

theorem diagL_read (c : Dev nD) (X : Vec F S1024x512 .f32) (T : Vec F S5x1024x512 .f32) (d : Vec F S1x1x128 .f32) :
    M4.view.read (Elt F) (M4.view.writes (Elt F) M4.view.junk (diagL M4 X T d)) = diagOn X T d := by
  refine (full_load (c := c) M4 _).symm.trans ?_
  exact dst_fold M4 (sims X T) _ (k0_pay21 (sim (im X 0) (th T 0 0)) d) (full_cov M4 _ _)

end Run

end Cert.Proof.KI

end
-- ==== Proof.KI.Point.lean ====
module

public import proofs.«01_k».proof.Proof.KI.Body

/-!
  The main launch's body at one point: the two runs put in the closed form of `RowRel`, `ColRel`, `diagStep` and `staged`.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {c : Dev nD}

section Run

variable (i : grid0.Coords)
    (M0 : Memref sig .tc .vmem S1024x512 .f32) (h0 : M0.IsWhole) (M1 : Memref sig .tc .vmem S1024x5x512 .f32) (h1 : M1.IsWhole)
    (M2 : Memref sig .tc .vmem S1x1x4096 .f32) (h2 : M2.IsWhole) (M3 : Memref sig .tc .vmem S1x5x8x2048 .f32) (h3 : M3.IsWhole)
    (M4 : Memref sig .tc .vmem S1x1x128 .f32) (h4 : M4.IsWhole) (M5 : Memref sig .tc .vmem S5x1024x512 .f32) (h5 : M5.IsWhole)
    (f0 : Bf (F := F) c M0) (f1 : Bf (F := F) c M1) (f2 : Bf (F := F) c M2) (f3 : Bf (F := F) c M3) (f4 : Bf (F := F) c M4)
    (f5 : Bf (F := F) c M5)

theorem pay132_eq (a : BitVec 32) (m : FVec F S512x512 .f32) (B : Vec F S1x512x512 .f32) (w : Vec F S1x1x8x512 .f32) :
    k0_pay132 a m B w = colUpd (Scalar.ori (Scalar.cmpi .sgt a 0#32) 1#1) (cs m B) w := rfl

theorem pay2_eq : k0_pay2 (F := F) = k0_pay70 := rfl

theorem col1_cons (X : Vec F S1024x512 .f32) (T : Vec F S5x1024x512 .f32) :
    col1 i M3 f3 X T = ⟨colRect i 4 1, colUpd (Scalar.ori (Scalar.cmpi .sgt (BitVec.ofNat 32 (i 2).val) 0#32) 1#1) (cs (im X 1) (th T 4 1))
      (M3.view.readCov (col1 i M3 f3 X T).tail (colRect i 4 1).toLoadRect)⟩ :: (col1 i M3 f3 X T).tail := rfl

theorem row1_cons (X : Vec F S1024x512 .f32) (T : Vec F S5x1024x512 .f32) :
    row1 i M2 f2 X T = ⟨rowRect i 1, k0_pay70 (BitVec.ofNat 32 (i 1).val) (rs (im X 1) T) (M2.view.readAt (Elt F) (rowRect i 1).toLoadRect f2)⟩ :: (row1 i M2 f2 X T).tail := rfl

theorem on_im : runOn.sl.r_31 c M0 f0 = im (M0.view.read (Elt F) f0) 1 := rfl

theorem on_th : runOn.sl.v331 c i M1 M5 f1 f5 = th (M5.view.read (Elt F) (scr i M1 M5 f1 f5)) 4 1 := rfl

theorem on_sum : runOn.sl.r_63 c i M0 M1 M5 f0 f1 f5 = rs (im (M0.view.read (Elt F) f0) 1) (M5.view.read (Elt F) (scr i M1 M5 f1 f5)) := rfl

theorem on_row_tail : runOn.sl.H2_1 c i M0 M1 M2 M5 f0 f1 f2 f5 = (row1 i M2 f2 (M0.view.read (Elt F) f0) (M5.view.read (Elt F) (scr i M1 M5 f1 f5))).tail := rfl

theorem on_col_tail : runOn.sl.H3_19 c i M0 M1 M3 M5 f0 f1 f3 f5 = (col1 i M3 f3 (M0.view.read (Elt F) f0) (M5.view.read (Elt F) (scr i M1 M5 f1 f5))).tail := rfl

theorem on_adds : runOn.sl.H4_10 c i M0 M1 M4 M5 f0 f1 f4 f5 = diagL M4 (M0.view.read (Elt F) f0) (M5.view.read (Elt F) (scr i M1 M5 f1 f5)) (M4.view.readAt (Elt F) (Rect.unit (s := S1x1x128) ![0, 0, 0] S1x1x128.size inb_S1x1x128_S1x1x128_0_0_0).toLoadRect (dz i M4 f4)) := rfl

theorem on_rows (e3 : k0_cond3 i = 1#1) (e4 : ¬ k0_cond4 i = 1#1) (e5 : k0_cond5 i = 1#1) (e6 : ¬ k0_cond6 i = 1#1) (e7 : k0_cond7 i = 1#1) (e8 : ¬ k0_cond8 i = 1#1) (e9 : k0_cond9 i = 1#1) (e10 : ¬ k0_cond10 i = 1#1) (e11 : k0_cond11 i = 1#1) (e12 : ¬ k0_cond12 i = 1#1) (e13 : ¬ k0_cond13 i = 1#1) (e14 : k0_cond14 i = 1#1) (e15 : ¬ k0_cond15 i = 1#1) (e16 : k0_cond16 i = 1#1) (e17 : ¬ k0_cond17 i = 1#1) (e18 : k0_cond18 i = 1#1) (e19 : ¬ k0_cond19 i = 1#1) (e20 : k0_cond20 i = 1#1) (e21 : ¬ k0_cond21 i = 1#1) (e22 : k0_cond22 i = 1#1) :
    (runOn c i e3 e4 e5 e6 e7 e8 e9 e10 e11 e12 e13 e14 e15 e16 e17 e18 e19 e20 e21 e22 M0 h0 M1 h1 M2 h2 M3 h3 M4 h4 M5 h5 f0 f1 f2 f3 f4 f5).1.1 = M2.view.writes (Elt F) f2 (row1 i M2 f2 (M0.view.read (Elt F) f0) (M5.view.read (Elt F) (scr i M1 M5 f1 f5))) := by
  rw [row1_cons, ← on_sum, ← on_row_tail, ← pay2_eq]
  delta runOn
  dsimp only
  refine congrArg (M2.view.writes (Elt F) f2) ?_
  refine congrArg (fun p => p :: runOn.sl.H2_1 c i M0 M1 M2 M5 f0 f1 f2 f5) ?_
  rfl

theorem on_cols (e3 : k0_cond3 i = 1#1) (e4 : ¬ k0_cond4 i = 1#1) (e5 : k0_cond5 i = 1#1) (e6 : ¬ k0_cond6 i = 1#1) (e7 : k0_cond7 i = 1#1) (e8 : ¬ k0_cond8 i = 1#1) (e9 : k0_cond9 i = 1#1) (e10 : ¬ k0_cond10 i = 1#1) (e11 : k0_cond11 i = 1#1) (e12 : ¬ k0_cond12 i = 1#1) (e13 : ¬ k0_cond13 i = 1#1) (e14 : k0_cond14 i = 1#1) (e15 : ¬ k0_cond15 i = 1#1) (e16 : k0_cond16 i = 1#1) (e17 : ¬ k0_cond17 i = 1#1) (e18 : k0_cond18 i = 1#1) (e19 : ¬ k0_cond19 i = 1#1) (e20 : k0_cond20 i = 1#1) (e21 : ¬ k0_cond21 i = 1#1) (e22 : k0_cond22 i = 1#1) :
    (runOn c i e3 e4 e5 e6 e7 e8 e9 e10 e11 e12 e13 e14 e15 e16 e17 e18 e19 e20 e21 e22 M0 h0 M1 h1 M2 h2 M3 h3 M4 h4 M5 h5 f0 f1 f2 f3 f4 f5).1.2.1 = M3.view.writes (Elt F) f3 (col1 i M3 f3 (M0.view.read (Elt F) f0) (M5.view.read (Elt F) (scr i M1 M5 f1 f5))) := by
  rw [col1_cons, ← on_im, ← on_th, ← on_col_tail, ← pay132_eq]
  delta runOn
  dsimp only
  refine congrArg (M3.view.writes (Elt F) f3) ?_
  refine congrArg (fun p => p :: runOn.sl.H3_19 c i M0 M1 M3 M5 f0 f1 f3 f5) ?_
  rfl

theorem on_diag (e3 : k0_cond3 i = 1#1) (e4 : ¬ k0_cond4 i = 1#1) (e5 : k0_cond5 i = 1#1) (e6 : ¬ k0_cond6 i = 1#1) (e7 : k0_cond7 i = 1#1) (e8 : ¬ k0_cond8 i = 1#1) (e9 : k0_cond9 i = 1#1) (e10 : ¬ k0_cond10 i = 1#1) (e11 : k0_cond11 i = 1#1) (e12 : ¬ k0_cond12 i = 1#1) (e13 : ¬ k0_cond13 i = 1#1) (e14 : k0_cond14 i = 1#1) (e15 : ¬ k0_cond15 i = 1#1) (e16 : k0_cond16 i = 1#1) (e17 : ¬ k0_cond17 i = 1#1) (e18 : k0_cond18 i = 1#1) (e19 : ¬ k0_cond19 i = 1#1) (e20 : k0_cond20 i = 1#1) (e21 : ¬ k0_cond21 i = 1#1) (e22 : k0_cond22 i = 1#1) :
    (runOn c i e3 e4 e5 e6 e7 e8 e9 e10 e11 e12 e13 e14 e15 e16 e17 e18 e19 e20 e21 e22 M0 h0 M1 h1 M2 h2 M3 h3 M4 h4 M5 h5 f0 f1 f2 f3 f4 f5).1.2.2.1 = M4.view.writes (Elt F) M4.view.junk (diagL M4 (M0.view.read (Elt F) f0) (M5.view.read (Elt F) (scr i M1 M5 f1 f5))
        (M4.view.readAt (Elt F) (Rect.unit (s := S1x1x128) ![0, 0, 0] S1x1x128.size inb_S1x1x128_S1x1x128_0_0_0).toLoadRect (dz i M4 f4))) := by
  rw [← on_adds]
  rfl

theorem on_scr (e3 : k0_cond3 i = 1#1) (e4 : ¬ k0_cond4 i = 1#1) (e5 : k0_cond5 i = 1#1) (e6 : ¬ k0_cond6 i = 1#1) (e7 : k0_cond7 i = 1#1) (e8 : ¬ k0_cond8 i = 1#1) (e9 : k0_cond9 i = 1#1) (e10 : ¬ k0_cond10 i = 1#1) (e11 : k0_cond11 i = 1#1) (e12 : ¬ k0_cond12 i = 1#1) (e13 : ¬ k0_cond13 i = 1#1) (e14 : k0_cond14 i = 1#1) (e15 : ¬ k0_cond15 i = 1#1) (e16 : k0_cond16 i = 1#1) (e17 : ¬ k0_cond17 i = 1#1) (e18 : k0_cond18 i = 1#1) (e19 : ¬ k0_cond19 i = 1#1) (e20 : k0_cond20 i = 1#1) (e21 : ¬ k0_cond21 i = 1#1) (e22 : k0_cond22 i = 1#1) :
    (runOn c i e3 e4 e5 e6 e7 e8 e9 e10 e11 e12 e13 e14 e15 e16 e17 e18 e19 e20 e21 e22 M0 h0 M1 h1 M2 h2 M3 h3 M4 h4 M5 h5 f0 f1 f2 f3 f4 f5).1.2.2.2 = scr i M1 M5 f1 f5 := rfl

theorem off_im : runOff.sl.r_31 c M0 f0 = im (M0.view.read (Elt F) f0) 1 := rfl

theorem off_th : runOff.sl.v331 c i M1 M5 f1 f5 = th (M5.view.read (Elt F) (scr i M1 M5 f1 f5)) 4 1 := rfl

theorem off_sum : runOff.sl.r_63 c i M0 M1 M5 f0 f1 f5 = rs (im (M0.view.read (Elt F) f0) 1) (M5.view.read (Elt F) (scr i M1 M5 f1 f5)) := rfl

theorem off_row_tail : runOff.sl.H2_1 c i M0 M1 M2 M5 f0 f1 f2 f5 = (row1 i M2 f2 (M0.view.read (Elt F) f0) (M5.view.read (Elt F) (scr i M1 M5 f1 f5))).tail := rfl

theorem off_col_tail : runOff.sl.H3_19 c i M0 M1 M3 M5 f0 f1 f3 f5 = (col1 i M3 f3 (M0.view.read (Elt F) f0) (M5.view.read (Elt F) (scr i M1 M5 f1 f5))).tail := rfl

theorem off_rows (e3 : ¬ k0_cond3 i = 1#1) (e4 : ¬ k0_cond4 i = 1#1) (e5 : ¬ k0_cond5 i = 1#1) (e6 : ¬ k0_cond6 i = 1#1) (e7 : ¬ k0_cond7 i = 1#1) (e8 : ¬ k0_cond8 i = 1#1) (e9 : ¬ k0_cond9 i = 1#1) (e10 : ¬ k0_cond10 i = 1#1) (e11 : ¬ k0_cond11 i = 1#1) (e12 : ¬ k0_cond12 i = 1#1) (e13 : ¬ k0_cond13 i = 1#1) (e14 : ¬ k0_cond14 i = 1#1) (e15 : ¬ k0_cond15 i = 1#1) (e16 : ¬ k0_cond16 i = 1#1) (e17 : ¬ k0_cond17 i = 1#1) (e18 : ¬ k0_cond18 i = 1#1) (e19 : ¬ k0_cond19 i = 1#1) (e20 : ¬ k0_cond20 i = 1#1) (e21 : ¬ k0_cond21 i = 1#1) (e22 : ¬ k0_cond22 i = 1#1) :
    (runOff c i e3 e4 e5 e6 e7 e8 e9 e10 e11 e12 e13 e14 e15 e16 e17 e18 e19 e20 e21 e22 M0 h0 M1 h1 M2 h2 M3 h3 M4 h4 M5 h5 f0 f1 f2 f3 f4 f5).1.1 = M2.view.writes (Elt F) f2 (row1 i M2 f2 (M0.view.read (Elt F) f0) (M5.view.read (Elt F) (scr i M1 M5 f1 f5))) := by
  rw [row1_cons, ← off_sum, ← off_row_tail, ← pay2_eq]
  delta runOff
  dsimp only
  refine congrArg (M2.view.writes (Elt F) f2) ?_
  refine congrArg (fun p => p :: runOff.sl.H2_1 c i M0 M1 M2 M5 f0 f1 f2 f5) ?_
  rfl

theorem off_cols (e3 : ¬ k0_cond3 i = 1#1) (e4 : ¬ k0_cond4 i = 1#1) (e5 : ¬ k0_cond5 i = 1#1) (e6 : ¬ k0_cond6 i = 1#1) (e7 : ¬ k0_cond7 i = 1#1) (e8 : ¬ k0_cond8 i = 1#1) (e9 : ¬ k0_cond9 i = 1#1) (e10 : ¬ k0_cond10 i = 1#1) (e11 : ¬ k0_cond11 i = 1#1) (e12 : ¬ k0_cond12 i = 1#1) (e13 : ¬ k0_cond13 i = 1#1) (e14 : ¬ k0_cond14 i = 1#1) (e15 : ¬ k0_cond15 i = 1#1) (e16 : ¬ k0_cond16 i = 1#1) (e17 : ¬ k0_cond17 i = 1#1) (e18 : ¬ k0_cond18 i = 1#1) (e19 : ¬ k0_cond19 i = 1#1) (e20 : ¬ k0_cond20 i = 1#1) (e21 : ¬ k0_cond21 i = 1#1) (e22 : ¬ k0_cond22 i = 1#1) :
    (runOff c i e3 e4 e5 e6 e7 e8 e9 e10 e11 e12 e13 e14 e15 e16 e17 e18 e19 e20 e21 e22 M0 h0 M1 h1 M2 h2 M3 h3 M4 h4 M5 h5 f0 f1 f2 f3 f4 f5).1.2.1 = M3.view.writes (Elt F) f3 (col1 i M3 f3 (M0.view.read (Elt F) f0) (M5.view.read (Elt F) (scr i M1 M5 f1 f5))) := by
  rw [col1_cons, ← off_im, ← off_th, ← off_col_tail, ← pay132_eq]
  delta runOff
  dsimp only
  refine congrArg (M3.view.writes (Elt F) f3) ?_
  refine congrArg (fun p => p :: runOff.sl.H3_19 c i M0 M1 M3 M5 f0 f1 f3 f5) ?_
  rfl

theorem off_diag (e3 : ¬ k0_cond3 i = 1#1) (e4 : ¬ k0_cond4 i = 1#1) (e5 : ¬ k0_cond5 i = 1#1) (e6 : ¬ k0_cond6 i = 1#1) (e7 : ¬ k0_cond7 i = 1#1) (e8 : ¬ k0_cond8 i = 1#1) (e9 : ¬ k0_cond9 i = 1#1) (e10 : ¬ k0_cond10 i = 1#1) (e11 : ¬ k0_cond11 i = 1#1) (e12 : ¬ k0_cond12 i = 1#1) (e13 : ¬ k0_cond13 i = 1#1) (e14 : ¬ k0_cond14 i = 1#1) (e15 : ¬ k0_cond15 i = 1#1) (e16 : ¬ k0_cond16 i = 1#1) (e17 : ¬ k0_cond17 i = 1#1) (e18 : ¬ k0_cond18 i = 1#1) (e19 : ¬ k0_cond19 i = 1#1) (e20 : ¬ k0_cond20 i = 1#1) (e21 : ¬ k0_cond21 i = 1#1) (e22 : ¬ k0_cond22 i = 1#1) :
    (runOff c i e3 e4 e5 e6 e7 e8 e9 e10 e11 e12 e13 e14 e15 e16 e17 e18 e19 e20 e21 e22 M0 h0 M1 h1 M2 h2 M3 h3 M4 h4 M5 h5 f0 f1 f2 f3 f4 f5).1.2.2.1 = dz i M4 f4 := rfl

theorem off_scr (e3 : ¬ k0_cond3 i = 1#1) (e4 : ¬ k0_cond4 i = 1#1) (e5 : ¬ k0_cond5 i = 1#1) (e6 : ¬ k0_cond6 i = 1#1) (e7 : ¬ k0_cond7 i = 1#1) (e8 : ¬ k0_cond8 i = 1#1) (e9 : ¬ k0_cond9 i = 1#1) (e10 : ¬ k0_cond10 i = 1#1) (e11 : ¬ k0_cond11 i = 1#1) (e12 : ¬ k0_cond12 i = 1#1) (e13 : ¬ k0_cond13 i = 1#1) (e14 : ¬ k0_cond14 i = 1#1) (e15 : ¬ k0_cond15 i = 1#1) (e16 : ¬ k0_cond16 i = 1#1) (e17 : ¬ k0_cond17 i = 1#1) (e18 : ¬ k0_cond18 i = 1#1) (e19 : ¬ k0_cond19 i = 1#1) (e20 : ¬ k0_cond20 i = 1#1) (e21 : ¬ k0_cond21 i = 1#1) (e22 : ¬ k0_cond22 i = 1#1) :
    (runOff c i e3 e4 e5 e6 e7 e8 e9 e10 e11 e12 e13 e14 e15 e16 e17 e18 e19 e20 e21 e22 M0 h0 M1 h1 M2 h2 M3 h3 M4 h4 M5 h5 f0 f1 f2 f3 f4 f5).1.2.2.2 = scr i M1 M5 f1 f5 := rfl

/-- THE BODY AT A POINT. -/
theorem main_run : ∃ (g2 : Bf (F := F) c M2) (g3 : Bf (F := F) c M3) (g4 : Bf (F := F) c M4) (g5 : Bf (F := F) c M5),
    RowRel i (M0.view.read (Elt F) f0) (staged i (M1.view.read (Elt F) f1) (M5.view.read (Elt F) f5)) (M2.view.read (Elt F) f2) (M2.view.read (Elt F) g2)
    ∧ ColRel i (M0.view.read (Elt F) f0) (staged i (M1.view.read (Elt F) f1) (M5.view.read (Elt F) f5)) (M3.view.read (Elt F) f3) (M3.view.read (Elt F) g3)
    ∧ M4.view.read (Elt F) g4 = diagStep i (M0.view.read (Elt F) f0) (staged i (M1.view.read (Elt F) f1) (M5.view.read (Elt F) f5)) (M4.view.read (Elt F) f4)
    ∧ M5.view.read (Elt F) g5 = staged i (M1.view.read (Elt F) f1) (M5.view.read (Elt F) f5)
    ∧ ∀ (E : Set ℕ) (Q : PUnit → sProp 𝕄),
        iprop(pt c M0 f0 ∗ pt c M1 f1 ∗ pt c M2 f2 ∗ pt c M3 f3 ∗ pt c M4 f4 ∗ pt c M5 f5
          ∗ (iprop(pt c M0 f0 ∗ pt c M1 f1 ∗ pt c M2 g2 ∗ pt c M3 g3 ∗ pt c M4 g4 ∗ pt c M5 g5) -∗ Q ⟨⟩))
        ⊢ wp frame (wpE (defs₀ (F := F)) Variants.none c none) E
            (cc0__main_body i M0 h0 M1 h1 M2 h2 M3 h3 M4 h4 M5 h5) Q := by
  rw [← scr_read i M1 M5 f1 f5]
  by_cases hon : On i
  · obtain ⟨⟨e3, e4, e5, e6, e7, e8, e9, e10, e11, e12⟩, e13, e14, e15, e16, e17, e18, e19, e20, e21, e22⟩ := on_facts i hon
    refine ⟨_, _, _, _, ?_, ?_, ?_, ?_, (runOn c i e3 e4 e5 e6 e7 e8 e9 e10 e11 e12 e13 e14 e15 e16 e17 e18 e19 e20 e21 e22 M0 h0 M1 h1 M2 h2 M3 h3 M4 h4 M5 h5 f0 f1 f2 f3 f4 f5).2⟩
    · rw [on_rows]
      exact ⟨row_read i M2 f2 _ _, row_read_off i M2 f2 _ _⟩
    · rw [on_cols]
      exact ⟨col_read i M3 f3 _ _, col_read_off i M3 f3 _ _⟩
    · rw [on_diag, diagL_read M4 c, full_load, dz_read]
      unfold diagStep
      rw [if_pos hon]
    · rw [on_scr]
  · obtain ⟨⟨e3, e4, e5, e6, e7, e8, e9, e10, e11, e12⟩, e13, e14, e15, e16, e17, e18, e19, e20, e21, e22⟩ := off_facts i hon
    refine ⟨_, _, _, _, ?_, ?_, ?_, ?_, (runOff c i e3 e4 e5 e6 e7 e8 e9 e10 e11 e12 e13 e14 e15 e16 e17 e18 e19 e20 e21 e22 M0 h0 M1 h1 M2 h2 M3 h3 M4 h4 M5 h5 f0 f1 f2 f3 f4 f5).2⟩
    · rw [off_rows]
      exact ⟨row_read i M2 f2 _ _, row_read_off i M2 f2 _ _⟩
    · rw [off_cols]
      exact ⟨col_read i M3 f3 _ _, col_read_off i M3 f3 _ _⟩
    · rw [off_diag, dz_read]
      unfold diagStep
      rw [if_neg hon]
    · rw [off_scr]

end Run

end Cert.Proof.KI

end
-- ==== Proof.KI.Data0.lean ====
module

public import proofs.«01_k».proof.Proof.KI.Point
public import Idealize.ShloMosaic.Lib.Pipeline.ArrRel
public import Idealize.ShloMosaic.Lib.Pipeline.ValueKit

/-!
  The main launch's proof data. The two running results' buffers hold anything when a half of the grid begins, and each point
  writes a part of them only, so the data say how a point changes a buffer and name no contents.
-/

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ UU ℕ

abbrev 𝒱₀ : Variants := Variants.none

variable (m : (ℓ : Loc nD τ sig) → Buf (Elt F) ℓ) (c : Dev nD)

/-- The images and the texts at launch. -/
def argI : Vec F S4096x512 .f32 := m ((c : Thread nD τ).loc main_arg0)
def argT : Vec F S4096x5x512 .f32 := m ((c : Thread nD τ).loc main_arg1)

/-- Image block `k`. -/
def xbl (k : Fin 4) : Vec F S1024x512 .f32 := fun y => argI m c (ix2 ⟨1024 * k.val + (y 0).val, by
  have := k.isLt; have : (y 0).val < 1024 := (y 0).isLt; omega⟩ (y 1))

/-- Text block `k`. -/
def wbl (k : Fin 4) : Vec F S1024x5x512 .f32 := fun y => argT m c (ix3 ⟨1024 * k.val + (y 0).val, by
  have := k.isLt; have : (y 0).val < 1024 := (y 0).isLt; omega⟩ (y 1) (y 2))

/-- Text block `k` as the scratch holds it. -/
def tbl (k : Fin 4) : Vec F S5x1024x512 .f32 := flip (wbl m c k)

/-- Point `i`'s image block and its text block. -/
def ib (i : grid0.Coords) : Fin 4 := ⟨(i 2).val, (i 2).isLt⟩
def bb (i : grid0.Coords) : Fin 4 := ⟨2 * (i 0).val + (i 1).val, by
  have h0 : (i 0).val < 2 := (i 0).isLt
  have h1 : (i 1).val < 2 := (i 1).isLt
  omega⟩

/-- The invariant before point `k`: in a run of points with one text block the scratch holds that block. -/
def Φ0 (k : Fin (cfg0.N + 1)) : sProp 𝕄 :=
  iprop((∃ f : Buf (Elt F) ((c : Thread nD τ).loc cc0_scratch0),
      ⌜∀ b : Fin 4, k.val / 4 = b.val → k.val % 4 ≠ 0 → (Memref.whole cc0_scratch0).view.read (Elt F) f = tbl m c b⌝ ∗ pt c (Memref.whole cc0_scratch0) f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f))

/-- What a point does to each window's buffer. -/
def aft (w : Fin cfg0.W) (t : Fin cfg0.N) : (Y X : (cfg0.win w).block.Idx → Elt F (cfg0.win w).elt) → Prop :=
  match w with
  | ⟨0, _⟩ => fun Y X => X = Y
  | ⟨1, _⟩ => fun Y X => X = Y
  | ⟨2, _⟩ => fun Y X => RowRel (grid0.coords t) (xbl m c (ib (grid0.coords t))) (tbl m c (bb (grid0.coords t))) Y X
  | ⟨3, _⟩ => fun Y X => ColRel (grid0.coords t) (xbl m c (ib (grid0.coords t))) (tbl m c (bb (grid0.coords t))) Y X
  | ⟨4, _⟩ => fun Y X => X = diagStep (grid0.coords t) (xbl m c (ib (grid0.coords t))) (tbl m c (bb (grid0.coords t))) Y

/-- The main launch's proof data. -/
def rd0 : RDat τ (Elt F) Unit ℕ UU ℕ cfg0 c where
  A w := V0 m c (Pipeline.arrRef spec0 w)
  after w t Y X := aft m c w t Y X
  Φ k := Φ0 m c k
  q _ := fullShare
  owed _ := 0

theorem idx0 : ∀ t : Fin cfg0.N, win0_0.index t = ![(grid0.coords t 2).val, 0]
    ∧ win0_1.index t = ![2 * (grid0.coords t 0).val + (grid0.coords t 1).val, 0, 0]
    ∧ win0_2.index t = ![(grid0.coords t 0).val, 0, 0]
    ∧ win0_3.index t = ![(grid0.coords t 0).val, 0, 0, 0]
    ∧ win0_4.index t = ![(grid0.coords t 0).val, 0, 0] := by decide +kernel

theorem crd0 : ∀ t : Fin cfg0.N, (grid0.coords t 0).val = t.val / 8 ∧ (grid0.coords t 1).val = t.val % 8 / 4 ∧ (grid0.coords t 2).val = t.val % 4 := by
  decide +kernel

/-- What the image window holds when the body runs. -/
theorem finds0 (t : Fin cfg0.N) (Y : (cfg0.win 0).block.Idx → Elt F (cfg0.win 0).elt) (h : (rd0 m c).Finds 0 t Y) :
    Y = xbl m c (ib (grid0.coords t)) := by
  obtain ⟨d, rfl⟩ := ((rd0 m c).finds_of_fetch (fetch0_0 t) Y).mp h
  have e : (rd0 m c).fetched 0 t d = (rd0 m c).blockOf 0 t := rfl
  rw [e]
  funext y
  unfold RDat.blockOf xbl ib argI
  show V0 m c (Pipeline.arrRef spec0 0) (((cfg0.win 0).blk t).view.emb y) = _
  blk_ext [(idx0 t).1]

/-- What the text window holds where it is fetched. -/
theorem finds1 (t : Fin cfg0.N) (ht : t.val % 4 = 0) (Y : (cfg0.win 1).block.Idx → Elt F (cfg0.win 1).elt) (h : (rd0 m c).Finds 1 t Y) :
    Y = wbl m c (bb (grid0.coords t)) := by
  obtain ⟨d, rfl⟩ := ((rd0 m c).finds_of_fetch ((fetch0_1 t).mpr ht) Y).mp h
  have e : (rd0 m c).fetched 1 t d = (rd0 m c).blockOf 1 t := rfl
  rw [e]
  funext y
  unfold RDat.blockOf wbl bb argT
  show V0 m c (Pipeline.arrRef spec0 1) (((cfg0.win 1).blk t).view.emb y) = _
  blk_ext [(idx0 t).2.1]

/-- A whole memref owned is its buffer held at contents that read so. -/
theorem owns_pt {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

theorem pt_owns {sp : Space} {S : Shape} {e : EltTy} (M : Memref sig .tc sp S e) (h : M.IsWhole) (f : Bf (F := F) c M) :
    pt c M f ⊢ (owns (c : Thread nD τ) M fullShare (M.view.read (Elt F) f) : sProp 𝕄) := by
  rw [owns_pt c M h]
  iintro H
  iexists f; isplitr; swap; (· iexact H)
  ipureintro; rfl

/-- The body table's row at the point is the body as `bodyAt0` spells it. -/
theorem defs₀_row0 (t : Fin cfg0.N) : defs₀ (F := F) .tc cfg0.body (cfg0.bodyArgs t (cfg0.slots t)) = bodyAt0 t := by
  unfold defs₀; rw [Defs.onTc_tc]

theorem body_obligation0 : (rd0 m c).BodyObligation (defs₀ (F := F)) 𝒱₀ () Set.univ := fun t Y hY => by
  rw [bigSep_W0, bigSep_W0, defs₀_row0]
  rw [show (rd0 m c).Φ t.castSucc = Φ0 m c t.castSucc from rfl, show (rd0 m c).Φ t.succ = Φ0 m c t.succ from rfl,
    show (rd0 m c).owesAt () t.succ = (rd0 m c).owesAt () t.castSucc from rfl]
  have e0 := finds0 m c t _ (hY 0)
  obtain ⟨c0, c1, c2⟩ := crd0 t
  have tN : t.val < 16 := t.isLt
  unfold Φ0
  iintro ⟨⟨⟨%f5, %h5, H5⟩, Hr⟩, Howes, H0, H1, H2, H3, H4⟩
  ihave H0 := (Entails.of_eq (owns_pt (F := F) c (win0_0.stage (cfg0.slots t 0)) (hstage0_0 ((cfg0.slots t 0).cast nbuf0_0)) (Y 0))) $$ H0
  icases H0 with ⟨%f0, %h0, H0⟩
  ihave H1 := (Entails.of_eq (owns_pt (F := F) c (win0_1.stage (cfg0.slots t 1)) (hstage0_1 ((cfg0.slots t 1).cast nbuf0_1)) (Y 1))) $$ H1
  icases H1 with ⟨%f1, %h1, H1⟩
  ihave H2 := (Entails.of_eq (owns_pt (F := F) c (win0_2.stage (cfg0.slots t 2)) (hstage0_2 ((cfg0.slots t 2).cast nbuf0_2)) (Y 2))) $$ H2
  icases H2 with ⟨%f2, %h2, H2⟩
  ihave H3 := (Entails.of_eq (owns_pt (F := F) c (win0_3.stage (cfg0.slots t 3)) (hstage0_3 ((cfg0.slots t 3).cast nbuf0_3)) (Y 3))) $$ H3
  icases H3 with ⟨%f3, %h3, H3⟩
  ihave H4 := (Entails.of_eq (owns_pt (F := F) c (win0_4.stage (cfg0.slots t 4)) (hstage0_4 ((cfg0.slots t 4).cast nbuf0_4)) (Y 4))) $$ H4
  icases H4 with ⟨%f4, %h4, H4⟩
  obtain ⟨g2, g3, g4, g5, r2, r3, r4, r5, run⟩ := main_run (c := c) (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (Memref.whole cc0_scratch0) (Memref.isWhole_whole _) f0 f1 f2 f3 f4 f5
  have hT : staged (grid0.coords t) (View.read (Elt F) (win0_1.stage (cfg0.slots t 1)).view f1) (View.read (Elt F) (Memref.whole cc0_scratch0).view f5)
      = tbl m c (bb (grid0.coords t)) := by
    unfold staged
    split
    · next hz =>
      have := finds1 m c t (by omega) _ (hY 1)
      rw [show View.read (Elt F) (win0_1.stage (cfg0.slots t 1)).view f1 = wbl m c (bb (grid0.coords t)) from h1.trans this]
      rfl
    · next hz =>
      refine h5 _ ?_ ?_
      · show t.val / 4 = 2 * (grid0.coords t 0).val + (grid0.coords t 1).val
        omega
      · show t.val % 4 ≠ 0
        omega
  have hX : View.read (Elt F) (win0_0.stage (cfg0.slots t 0)).view f0 = xbl m c (ib (grid0.coords t)) := h0.trans e0
  rw [hT] at r2 r3 r4 r5
  rw [hX] at r2 r3 r4
  iapply (run Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [H5 Hr]
  · isplitl [H5]
    · iexists g5; isplitr; swap; (· iexact H5)
      ipureintro
      intro b hb hk
      rw [r5]
      congr 1
      refine Fin.ext ?_
      show 2 * (grid0.coords t 0).val + (grid0.coords t 1).val = b.val
      have e1 : (t.val + 1) / 4 = b.val := hb
      have e2 : (t.val + 1) % 4 ≠ 0 := hk
      omega
    iexact Hr
  isplitl [Howes]; · iexact Howes
  isplitl [H0]
  · iexists (View.read (Elt F) (win0_0.stage (cfg0.slots t 0)).view f0); isplitr; swap
    · iapply (pt_owns (F := F) c (win0_0.stage (cfg0.slots t 0)) (hstage0_0 ((cfg0.slots t 0).cast nbuf0_0)) f0); iexact H0
    ipureintro; exact h0
  isplitl [H1]
  · iexists (View.read (Elt F) (win0_1.stage (cfg0.slots t 1)).view f1); isplitr; swap
    · iapply (pt_owns (F := F) c (win0_1.stage (cfg0.slots t 1)) (hstage0_1 ((cfg0.slots t 1).cast nbuf0_1)) f1); iexact H1
    ipureintro; exact h1
  isplitl [H2]
  · iexists (View.read (Elt F) (win0_2.stage (cfg0.slots t 2)).view g2); isplitr; swap
    · iapply (pt_owns (F := F) c (win0_2.stage (cfg0.slots t 2)) (hstage0_2 ((cfg0.slots t 2).cast nbuf0_2)) g2); iexact H2
    ipureintro; rw [h2] at r2; exact r2
  isplitl [H3]
  · iexists (View.read (Elt F) (win0_3.stage (cfg0.slots t 3)).view g3); isplitr; swap
    · iapply (pt_owns (F := F) c (win0_3.stage (cfg0.slots t 3)) (hstage0_3 ((cfg0.slots t 3).cast nbuf0_3)) g3); iexact H3
    ipureintro; rw [h3] at r3; exact r3
  iexists (View.read (Elt F) (win0_4.stage (cfg0.slots t 4)).view g4); isplitr; swap
  · iapply (pt_owns (F := F) c (win0_4.stage (cfg0.slots t 4)) (hstage0_4 ((cfg0.slots t 4).cast nbuf0_4)) g4); iexact H4
  ipureintro; rw [h4] at r4; exact r4

end Cert.Proof.KI

end
-- ==== Proof.KI.Arr0.lean ====
module

public import proofs.«01_k».proof.Proof.KI.Data0

/-!
  What the main launch leaves in its three result arrays: each half of the grid's eight points taken in order.
-/

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.Pipeline (RDat Cfg Window cellOf)

variable {F : FTy → Type} [FloatOps F] [Named F]

variable (m : (ℓ : Loc nD τ sig) → Buf (Elt F) ℓ) (c : Dev nD)

/-- Point `k` of half `p`. -/
def pnt (p : Fin 2) (k : Fin 8) : Fin cfg0.N := ⟨8 * p.val + k.val, by
  have := p.isLt; have := k.isLt; show _ < 16; omega⟩

/-- The text half-grid `j`'s block of half `p`. -/
def tix (p j : Fin 2) : Fin 4 := ⟨2 * p.val + j.val, by have := p.isLt; have := j.isLt; omega⟩

/-- The eight points of a half in order: what each may find is what the one before may have left. -/
theorem leaves_chain (w : Fin cfg0.W) (hf : ∀ t, (cfg0.win w).fetch t = false) (hl : ∀ t, (cfg0.win w).flush t = true ↔ t.val % 8 = 7)
    (p : Fin 2) : ∀ (k : ℕ) (hk : k < 8) (X : (cfg0.win w).block.Idx → Elt F (cfg0.win w).elt), (rd0 m c).Leaves w (pnt p ⟨k, hk⟩) X →
      ∃ S : ℕ → (cfg0.win w).block.Idx → Elt F (cfg0.win w).elt, S (k + 1) = X ∧ ∀ j (hj : j < 8), j ≤ k → aft m c w (pnt p ⟨j, hj⟩) (S j) (S (j + 1))
  | 0, hk, X, h => by
    obtain ⟨Y, -, h⟩ := h
    refine ⟨fun n => if n = 0 then Y else X, rfl, fun j hj h0 => ?_⟩
    obtain rfl : j = 0 := by omega
    exact h
  | k + 1, hk, X, h => by
    obtain ⟨Y, hY, h⟩ := h
    have ht : (pnt p ⟨k + 1, hk⟩).val ≠ 0 := by show 8 * p.val + (k + 1) ≠ 0; omega
    have e : (⟨(pnt p ⟨k + 1, hk⟩).val - 1, Nat.lt_of_le_of_lt (Nat.sub_le _ _) (pnt p ⟨k + 1, hk⟩).isLt⟩ : Fin cfg0.N) = pnt p ⟨k, by omega⟩ :=
      Fin.ext (by show 8 * p.val + (k + 1) - 1 = 8 * p.val + k; omega)
    rcases ((rd0 m c).finds_of_pos (hf _) ht Y).mp hY with hfl | hlv
    · rw [e, hl] at hfl
      have : (8 * p.val + k) % 8 = 7 := hfl
      omega
    · rw [e] at hlv
      obtain ⟨S, hS, hs⟩ := leaves_chain w hf hl p k (by omega) Y hlv
      refine ⟨fun n => if n ≤ k + 1 then S n else X, if_neg (by omega), fun j hj h0 => ?_⟩
      by_cases hjk : j ≤ k
      · show aft m c w (pnt p ⟨j, hj⟩) (if j ≤ k + 1 then S j else X) (if j + 1 ≤ k + 1 then S (j + 1) else X)
        rw [if_pos (by omega), if_pos (by omega)]
        exact hs j hj hjk
      · obtain rfl : j = k + 1 := by omega
        show aft m c w (pnt p ⟨k + 1, hj⟩) (if k + 1 ≤ k + 1 then S (k + 1) else X) (if k + 1 + 1 ≤ k + 1 then S (k + 1 + 1) else X)
        rw [if_pos (le_refl _), if_neg (by omega), hS]
        exact h

theorem no_fetch : ∀ t : Fin grid0.N, win0_2.fetch t = false ∧ win0_3.fetch t = false ∧ win0_4.fetch t = false := by decide +kernel

/-! ## Two folds over a half -/

theorem later_zero : later 0 = 0#1 := by decide
theorem later_one : later 1 = 1#1 := by decide
theorem later_two : later 2 = 1#1 := by decide
theorem later_three : later 3 = 1#1 := by decide

abbrev zeroF : F .f32 := Scalar.ofBits .f32 0x00000000#32

/-- A row element over a half: its chunk's point in each text half-grid adds to it, the first from zero. -/
theorem row_fold (s : ℕ → F .f32) (r : ℕ → F .f32) (i : ℕ) (hi : i < 4)
    (hs : ∀ k < 8, s (k + 1) = if k % 4 = i then FloatOps.addf (Scalar.select (later (k / 4)) (s k) zeroF) (r (k / 4)) else s k) :
    s 8 = FloatOps.addf (FloatOps.addf zeroF (r 0)) (r 1) := by
  have h0 := hs 0 (by omega); have h1 := hs 1 (by omega); have h2 := hs 2 (by omega); have h3 := hs 3 (by omega)
  have h4 := hs 4 (by omega); have h5 := hs 5 (by omega); have h6 := hs 6 (by omega); have h7 := hs 7 (by omega)
  interval_cases i <;>
    simp [later_zero, later_one, ValueIdx.select_one, ValueIdx.select_zero] at h0 h1 h2 h3 h4 h5 h6 h7 <;>
    simp [h0, h1, h2, h3, h4, h5, h6, h7]

/-- A column element over a half: the four points of its text half-grid add to it, the first from zero. -/
theorem col_fold (s : ℕ → F .f32) (u v : ℕ → F .f32) (j : ℕ) (hj : j < 2)
    (hs : ∀ k < 8, s (k + 1) = if k / 4 = j then FloatOps.addf (FloatOps.addf (Scalar.select (later (k % 4)) (s k) zeroF) (u (k % 4))) (v (k % 4)) else s k) :
    s 8 = FloatOps.addf (FloatOps.addf (FloatOps.addf (FloatOps.addf (FloatOps.addf (FloatOps.addf (FloatOps.addf (FloatOps.addf zeroF (u 0)) (v 0)) (u 1)) (v 1)) (u 2)) (v 2)) (u 3)) (v 3) := by
  have h0 := hs 0 (by omega); have h1 := hs 1 (by omega); have h2 := hs 2 (by omega); have h3 := hs 3 (by omega)
  have h4 := hs 4 (by omega); have h5 := hs 5 (by omega); have h6 := hs 6 (by omega); have h7 := hs 7 (by omega)
  interval_cases j <;>
    simp [later_zero, later_one, later_two, later_three, ValueIdx.select_one, ValueIdx.select_zero] at h0 h1 h2 h3 h4 h5 h6 h7 <;>
    simp [h0, h1, h2, h3, h4, h5, h6, h7]

/-! ## The three results of a half -/

/-- The row sums of half `p`. -/
def rowF (p : Fin 2) : Vec F S1x1x4096 .f32 := fun y =>
  let k : Fin 4 := ⟨(y 2).val / 1024, by have : (y 2).val < 4096 := (y 2).isLt; omega⟩
  let h : Fin 2 := ⟨(y 2).val % 1024 / 512, by omega⟩
  let l : Fin 512 := ⟨(y 2).val % 512, by omega⟩
  FloatOps.addf (FloatOps.addf zeroF (rsum (im (xbl m c k) h) (tbl m c (tix p 0)) (ix1 l))) (rsum (im (xbl m c k) h) (tbl m c (tix p 1)) (ix1 l))

/-- The column sums of half `p`. -/
def colF (p : Fin 2) : Vec F S1x5x8x2048 .f32 := fun y =>
  let j : Fin 2 := ⟨(y 3).val / 1024, by have : (y 3).val < 2048 := (y 3).isLt; omega⟩
  let h : Fin 2 := ⟨(y 3).val % 1024 / 512, by omega⟩
  let l : Fin 512 := ⟨(y 3).val % 512, by omega⟩
  let u (k : Fin 4) (g : Fin 2) : F .f32 := cs (im (xbl m c k) g) (th (tbl m c (tix p j)) (y 1) h) (ix2 (y 2) l)
  FloatOps.addf (FloatOps.addf (FloatOps.addf (FloatOps.addf (FloatOps.addf (FloatOps.addf (FloatOps.addf (FloatOps.addf zeroF
    (u 0 0)) (u 0 1)) (u 1 0)) (u 1 1)) (u 2 0)) (u 2 1)) (u 3 0)) (u 3 1)

/-- The diagonal's lane sums of half `p`. -/
def diagF (p : Fin 2) : Vec F S1x1x128 .f32 :=
  diagOn (xbl m c (tix p 1)) (tbl m c (tix p 1)) (diagOn (xbl m c (tix p 0)) (tbl m c (tix p 0)) k0_pay8)

theorem crdp : ∀ (p : Fin 2) (k : Fin 8), (grid0.coords (pnt p k) 0).val = p.val ∧ (grid0.coords (pnt p k) 1).val = k.val / 4
    ∧ (grid0.coords (pnt p k) 2).val = k.val % 4 := by decide +kernel

theorem bb_pnt (p : Fin 2) (k : Fin 8) : bb (grid0.coords (pnt p k)) = tix p ⟨k.val / 4, by omega⟩ := by
  obtain ⟨e0, e1, -⟩ := crdp p k
  exact Fin.ext (by show 2 * (grid0.coords (pnt p k) 0).val + (grid0.coords (pnt p k) 1).val = _; rw [e0, e1]; rfl)

theorem ib_pnt (p : Fin 2) (k : Fin 8) : ib (grid0.coords (pnt p k)) = ⟨k.val % 4, by omega⟩ :=
  Fin.ext (crdp p k).2.2

theorem rows_of_leaves (p : Fin 2) (X : Vec F S1x1x4096 .f32) (h : (rd0 m c).Leaves 2 (pnt p 7) X) : X = rowF m c p := by
  obtain ⟨S, rfl, hs⟩ := leaves_chain m c 2 (fun t => (no_fetch t).1) flush0_2 p 7 (by omega) X h
  funext y
  have hy2 : (y 2).val < 4096 := (y 2).isLt
  have hy0 : (y 0).val < 1 := (y 0).isLt
  have hy1 : (y 1).val < 1 := (y 1).isLt
  let kk : Fin 4 := ⟨(y 2).val / 1024, by omega⟩
  let hh : Fin 2 := ⟨(y 2).val % 1024 / 512, by omega⟩
  let ll : Fin 512 := ⟨(y 2).val % 512, by omega⟩
  refine (row_fold (fun k => S k y) (fun j => rsum (im (xbl m c kk) hh) (tbl m c (tix p ⟨j % 2, by omega⟩)) (ix1 ll)) kk.val kk.isLt fun k hk => ?_).trans rfl
  obtain ⟨r, off⟩ := hs k hk (by omega)
  obtain ⟨e0, e1, e2⟩ := crdp p ⟨k, hk⟩
  split
  · next e =>
    have ey : y = rr (grid0.coords (pnt p ⟨k, hk⟩)) hh ll := by
      funext a
      refine Fin.ext ?_
      match a with
      | ⟨0, _⟩ => show (y 0).val = 0; omega
      | ⟨1, _⟩ => show (y 1).val = 0; omega
      | ⟨2, _⟩ =>
        show (y 2).val = 1024 * (grid0.coords (pnt p ⟨k, hk⟩) 2).val + 512 * ((y 2).val % 1024 / 512) + (y 2).val % 512
        rw [e2]
        have : k % 4 = (y 2).val / 1024 := e
        show (y 2).val = 1024 * (k % 4) + 512 * ((y 2).val % 1024 / 512) + (y 2).val % 512
        omega
    have r' := r hh ll
    rw [← ey, bb_pnt, ib_pnt, e1] at r'
    refine r'.trans ?_
    have ek : (⟨k % 4, by omega⟩ : Fin 4) = kk := Fin.ext e
    have ej : (⟨k / 4, by omega⟩ : Fin 2) = ⟨k / 4 % 2, by omega⟩ := Fin.ext (by show k / 4 = k / 4 % 2; omega)
    show FloatOps.addf _ (rsum (im (xbl m c ⟨k % 4, _⟩) hh) (tbl m c (tix p ⟨k / 4, _⟩)) (ix1 ll)) = _
    rw [ek, ej]
  · next e =>
    refine off y fun q => e ?_
    rw [e2] at q
    exact q.symm

theorem cols_of_leaves (p : Fin 2) (X : Vec F S1x5x8x2048 .f32) (h : (rd0 m c).Leaves 3 (pnt p 7) X) : X = colF m c p := by
  obtain ⟨S, rfl, hs⟩ := leaves_chain m c 3 (fun t => (no_fetch t).2.1) flush0_3 p 7 (by omega) X h
  funext y
  have hy3 : (y 3).val < 2048 := (y 3).isLt
  have hy0 : (y 0).val < 1 := (y 0).isLt
  let jj : Fin 2 := ⟨(y 3).val / 1024, by omega⟩
  let hh : Fin 2 := ⟨(y 3).val % 1024 / 512, by omega⟩
  let ll : Fin 512 := ⟨(y 3).val % 512, by omega⟩
  let u (g : Fin 2) (k : ℕ) : F .f32 := cs (im (xbl m c ⟨k % 4, by omega⟩) g) (th (tbl m c (tix p jj)) (y 1) hh) (ix2 (y 2) ll)
  refine (col_fold (fun k => S k y) (u 0) (u 1) jj.val jj.isLt fun k hk => ?_).trans rfl
  obtain ⟨r, off⟩ := hs k hk (by omega)
  obtain ⟨e0, e1, e2⟩ := crdp p ⟨k, hk⟩
  split
  · next e =>
    have ey : y = yy (grid0.coords (pnt p ⟨k, hk⟩)) (y 1) hh (y 2) ll := by
      funext a
      refine Fin.ext ?_
      match a with
      | ⟨0, _⟩ => show (y 0).val = 0; omega
      | ⟨1, _⟩ => rfl
      | ⟨2, _⟩ => rfl
      | ⟨3, _⟩ =>
        show (y 3).val = 1024 * (grid0.coords (pnt p ⟨k, hk⟩) 1).val + 512 * ((y 3).val % 1024 / 512) + (y 3).val % 512
        rw [e1]
        have : k / 4 = (y 3).val / 1024 := e
        show (y 3).val = 1024 * (k / 4) + 512 * ((y 3).val % 1024 / 512) + (y 3).val % 512
        omega
    have r' := r (y 1) hh (y 2) ll
    rw [← ey, bb_pnt, ib_pnt, e2] at r'
    refine r'.trans ?_
    have ek : (⟨k % 4, by omega⟩ : Fin 4) = ⟨k % 4 % 4, by omega⟩ := Fin.ext (by show k % 4 = k % 4 % 4; omega)
    have ej : (⟨k / 4, by omega⟩ : Fin 2) = jj := Fin.ext e
    show FloatOps.addf (FloatOps.addf _ (cs (im (xbl m c ⟨k % 4, _⟩) 0) (th (tbl m c (tix p ⟨k / 4, _⟩)) (y 1) hh) (ix2 (y 2) ll)))
      (cs (im (xbl m c ⟨k % 4, _⟩) 1) (th (tbl m c (tix p ⟨k / 4, _⟩)) (y 1) hh) (ix2 (y 2) ll)) = _
    rw [ek, ej]
  · next e =>
    refine off y fun q => e ?_
    rw [e1] at q
    exact q.symm

theorem on_pnt : ∀ (p : Fin 2) (k : Fin 8), On (grid0.coords (pnt p k)) ↔ k.val % 4 = 2 * p.val + k.val / 4 := by decide +kernel

theorem diag_of_leaves (p : Fin 2) (X : Vec F S1x1x128 .f32) (h : (rd0 m c).Leaves 4 (pnt p 7) X) : X = diagF m c p := by
  obtain ⟨S, rfl, hs⟩ := leaves_chain m c 4 (fun t => (no_fetch t).2.2) flush0_4 p 7 (by omega) X h
  have step (k : ℕ) (hk : k < 8) : S (k + 1) = (let Y' := if k = 0 then k0_pay8 else S k
      if k % 4 = 2 * p.val + k / 4 then diagOn (xbl m c (tix p ⟨k / 4, by omega⟩)) (tbl m c (tix p ⟨k / 4, by omega⟩)) Y' else Y') := by
    refine (hs k hk (by omega) : S (k + 1) = diagStep _ _ _ _).trans ?_
    obtain ⟨e0, e1, e2⟩ := crdp p ⟨k, hk⟩
    have hz : ((grid0.coords (pnt p ⟨k, hk⟩) 1).val = 0 ∧ (grid0.coords (pnt p ⟨k, hk⟩) 2).val = 0) ↔ k = 0 := by
      rw [e1, e2]
      show k / 4 = 0 ∧ k % 4 = 0 ↔ k = 0
      omega
    unfold diagStep
    simp only [hz, on_pnt, bb_pnt, ib_pnt]
    by_cases e : k % 4 = 2 * p.val + k / 4
    · rw [if_pos e, if_pos e]
      have : (⟨k % 4, by omega⟩ : Fin 4) = tix p ⟨k / 4, by omega⟩ := Fin.ext e
      rw [this]
    · rw [if_neg e, if_neg e]
  have h0 := step 0 (by omega); have h1 := step 1 (by omega); have h2 := step 2 (by omega); have h3 := step 3 (by omega)
  have h4 := step 4 (by omega); have h5 := step 5 (by omega); have h6 := step 6 (by omega); have h7 := step 7 (by omega)
  show S 8 = _
  unfold diagF
  match p, h0, h1, h2, h3, h4, h5, h6, h7 with
  | ⟨0, _⟩, h0, h1, h2, h3, h4, h5, h6, h7 =>
    simp at h0 h1 h2 h3 h4 h5 h6 h7
    rw [h7, h6, h5, h4, h3, h2, h1, h0]
    rfl
  | ⟨1, _⟩, h0, h1, h2, h3, h4, h5, h6, h7 =>
    simp at h0 h1 h2 h3 h4 h5 h6 h7
    rw [h7, h6, h5, h4, h3, h2, h1, h0]
    rfl

/-! ## The arrays -/

def arr2 : Buf (Elt F) ((c : Thread nD τ).loc main_call0_v0_0) := fun (x : S2x1x4096.Idx) => rowF m c (x 0) (ix3 0 (x 1) (x 2))
def arr3 : Buf (Elt F) ((c : Thread nD τ).loc main_call0_v0_1) := fun (x : S2x5x8x2048.Idx) => colF m c (x 0) (ix4 0 (x 1) (x 2) (x 3))
def arr4 : Buf (Elt F) ((c : Thread nD τ).loc main_call0_v0_2) := fun (x : S2x1x128.Idx) => diagF m c (x 0) (ix3 0 (x 1) (x 2))

/-- The last point of a half. -/
theorem pnt_last (t : Fin cfg0.N) (h : t.val % 8 = 7) : t = pnt (grid0.coords t 0) 7 := by
  have tN : t.val < 16 := t.isLt
  have := (crd0 t).1
  exact Fin.ext (by show t.val = 8 * (grid0.coords t 0).val + 7; omega)

theorem lead3 {a b : ℕ} (y : (⟨3, ![1, a, b]⟩ : Shape).Idx) : y = ix3 0 (y 1) (y 2) :=
  (ValueIdx.eq_ix3 y).trans (congrArg (fun z : Fin 1 => ix3 z (y 1) (y 2)) (Subsingleton.elim (α := Fin 1) (y 0) 0))

theorem lead4 {a b d : ℕ} (y : (⟨4, ![1, a, b, d]⟩ : Shape).Idx) : y = ix4 0 (y 1) (y 2) (y 3) :=
  (ValueIdx.eq_ix4 y).trans (congrArg (fun z : Fin 1 => ix4 z (y 1) (y 2) (y 3)) (Subsingleton.elim (α := Fin 1) (y 0) 0))

theorem leaf_rows (t : Fin cfg0.N) (hf : t.val % 8 = 7) (X : Vec F S1x1x4096 .f32) (h : (rd0 m c).Leaves 2 t X) : X = rowF m c (grid0.coords t 0) := by
  rw [pnt_last t hf] at h
  exact rows_of_leaves m c _ _ h

theorem arr_rows (G : Buf (Elt F) ((cfg0.win 2).arr.view.loc (c : Thread nD τ))) (h : (rd0 m c).ArrAt 2 cfg0.N G) : G = arr2 m c := by
  obtain ⟨X, hX, hA⟩ := RDat.ArrAt.exists_exact (w := 2) (cfg := cfg0) h
  refine (hA (Function.update (fun _ _ _ => Classical.arbitrary _) 2 X) fun u _ _ => by rw [Function.update_self]).trans ?_
  refine Pipeline.Dat.arrAt_eq_of_covers _ 2 _ (by decide +kernel) fun t hf y => ?_
  have hr := leaf_rows m c t ((flush0_2 t).mp hf) _ (hX t t.isLt hf)
  rw [RDat.withAfter_after, Function.update_self, hr]
  unfold arr2
  have e : ∀ H : S2x1x4096.Idx → F .f32, H (((cfg0.win 2).blk t).view.emb y) = H (ix3 (grid0.coords t 0) (y 1) (y 2)) := fun H => by
    blk_ext [(idx0 t).2.2.1]
  refine (show rowF m c (grid0.coords t 0) y = rowF m c (grid0.coords t 0) (ix3 0 (y 1) (y 2)) from congrArg _ (lead3 y)).trans (e fun x => rowF m c (x 0) (ix3 0 (x 1) (x 2))).symm

theorem leaf_cols (t : Fin cfg0.N) (hf : t.val % 8 = 7) (X : Vec F S1x5x8x2048 .f32) (h : (rd0 m c).Leaves 3 t X) : X = colF m c (grid0.coords t 0) := by
  rw [pnt_last t hf] at h
  exact cols_of_leaves m c _ _ h

theorem arr_cols (G : Buf (Elt F) ((cfg0.win 3).arr.view.loc (c : Thread nD τ))) (h : (rd0 m c).ArrAt 3 cfg0.N G) : G = arr3 m c := by
  obtain ⟨X, hX, hA⟩ := RDat.ArrAt.exists_exact (w := 3) (cfg := cfg0) h
  refine (hA (Function.update (fun _ _ _ => Classical.arbitrary _) 3 X) fun u _ _ => by rw [Function.update_self]).trans ?_
  refine Pipeline.Dat.arrAt_eq_of_covers _ 3 _ (by decide +kernel) fun t hf y => ?_
  have hr := leaf_cols m c t ((flush0_3 t).mp hf) _ (hX t t.isLt hf)
  rw [RDat.withAfter_after, Function.update_self, hr]
  unfold arr3
  have e : ∀ H : S2x5x8x2048.Idx → F .f32, H (((cfg0.win 3).blk t).view.emb y) = H (ix4 (grid0.coords t 0) (y 1) (y 2) (y 3)) := fun H => by
    blk_ext [(idx0 t).2.2.2.1]
  refine (show colF m c (grid0.coords t 0) y = colF m c (grid0.coords t 0) (ix4 0 (y 1) (y 2) (y 3)) from congrArg _ (lead4 y)).trans (e fun x => colF m c (x 0) (ix4 0 (x 1) (x 2) (x 3))).symm

theorem leaf_diag (t : Fin cfg0.N) (hf : t.val % 8 = 7) (X : Vec F S1x1x128 .f32) (h : (rd0 m c).Leaves 4 t X) : X = diagF m c (grid0.coords t 0) := by
  rw [pnt_last t hf] at h
  exact diag_of_leaves m c _ _ h

theorem emb_diag (t : Fin cfg0.N) (y : S1x1x128.Idx) (H : S2x1x128.Idx → F .f32) :
    H ((win0_4.blk t).view.emb y) = H (ix3 (grid0.coords t 0) (y 1) (y 2)) := by
  blk_ext [(idx0 t).2.2.2.2]

theorem diag_at (R : Fin 2 → Vec F S1x1x128 .f32) (t : Fin cfg0.N) (y : S1x1x128.Idx) :
    R (grid0.coords t 0) y = R ((win0_4.blk t).view.emb y 0) (ix3 0 ((win0_4.blk t).view.emb y 1) ((win0_4.blk t).view.emb y 2)) := by
  refine Eq.trans ?_ (emb_diag t y fun x => R (x 0) (ix3 0 (x 1) (x 2))).symm
  exact congrArg (R (grid0.coords t 0)) (lead3 y)

theorem cov4 : (cfg0.win 4).Covers := by decide +kernel

theorem arr_diag (G : Buf (Elt F) ((cfg0.win 4).arr.view.loc (c : Thread nD τ))) (h : (rd0 m c).ArrAt 4 cfg0.N G) : G = arr4 m c := by
  obtain ⟨X, hX, hA⟩ := RDat.ArrAt.exists_exact (w := 4) (cfg := cfg0) h
  refine (hA (Function.update (fun _ _ _ => Classical.arbitrary _) 4 X) fun u _ _ => by rw [Function.update_self]).trans ?_
  refine Pipeline.Dat.arrAt_eq_of_covers _ 4 _ cov4 fun t hf y => ?_
  have hr := leaf_diag m c t ((flush0_4 t).mp hf) _ (hX t t.isLt hf)
  rw [RDat.withAfter_after, Function.update_self, hr]
  unfold arr4
  generalize diagF m c = R
  exact diag_at R t y

end Cert.Proof.KI

end
-- ==== Proof.KI.Fin.lean ====
module

public import proofs.«01_k».proof.Proof.KI.Arr0

/-!
  The second launch: the loss from the three results of the first, by one point over whole arrays.
-/

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ UU ℕ

/-- The loss of the row sums, the column sums and the diagonal's lane sums. -/
def fin (R : Vec F S2x1x4096 .f32) (C : Vec F S2x5x8x2048 .f32) (D : Vec F S2x1x128 .f32) : Vec F S1x1 .f32 :=
  k1_pay1 (fun y => R (ix3 0 (y 1) (y 2))) (fun y => R (ix3 1 (y 1) (y 2))) C D

/-- The body run, with what it leaves in the result's buffer. -/
def runFin (c : Dev nD) (M0 : Memref sig .tc .vmem S2x1x4096 .f32) (h0 : M0.IsWhole) (M1 : Memref sig .tc .vmem S2x5x8x2048 .f32) (h1 : M1.IsWhole)
    (M2 : Memref sig .tc .vmem S2x1x128 .f32) (h2 : M2.IsWhole) (M3 : Memref sig .tc .vmem S1x1 .f32) (h3 : M3.IsWhole)
    (f0 : Bf (F := F) c M0) (f1 : Bf (F := F) c M1) (f2 : Bf (F := F) c M2) (f3 : Bf (F := F) c M3) :
    { W : Bf (F := F) c M3 // ∀ (E : Set ℕ) (Q : PUnit → sProp 𝕄),
        iprop(pt c M0 f0 ∗ pt c M1 f1 ∗ pt c M2 f2 ∗ pt c M3 f3
          ∗ (iprop(pt c M0 f0 ∗ pt c M1 f1 ∗ pt c M2 f2 ∗ pt c M3 W) -∗ Q ⟨⟩))
        ⊢ wp frame (wpE (defs₀ (F := F)) Variants.none c none) E (cc1__fin_body M0 h0 M1 h1 M2 h2 M3 h3) Q } := by
  refine ⟨?_, fun E Q => ?run⟩
  case run =>
    iintro ⟨H0, H1, H2, H3, Hk⟩
    sl_exec_parts!
    sl_step
    iapply Hk
    isplitl [H0]; · iexact H0
    isplitl [H1]; · iexact H1
    isplitl [H2]; · iexact H2
    iexact H3

section Run

variable (c : Dev nD) (M0 : Memref sig .tc .vmem S2x1x4096 .f32) (h0 : M0.IsWhole) (M1 : Memref sig .tc .vmem S2x5x8x2048 .f32) (h1 : M1.IsWhole)
    (M2 : Memref sig .tc .vmem S2x1x128 .f32) (h2 : M2.IsWhole) (M3 : Memref sig .tc .vmem S1x1 .f32) (h3 : M3.IsWhole)
    (f0 : Bf (F := F) c M0) (f1 : Bf (F := F) c M1) (f2 : Bf (F := F) c M2) (f3 : Bf (F := F) c M3)

theorem runFin_eq : (runFin c M0 h0 M1 h1 M2 h2 M3 h3 f0 f1 f2 f3).1
    = M3.view.writes (Elt F) M3.view.junk [⟨Rect.unit (s := S1x1) ![0, 0] S1x1.size inb_S1x1_S1x1_0_0,
        k1_pay1 (M0.view.readAt (Elt F) (Rect.unit (s := S2x1x4096) ![0, 0, 0] S1x1x4096.size inb_S2x1x4096_S1x1x4096_0_0_0).toLoadRect f0)
          (M0.view.readAt (Elt F) (Rect.unit (s := S2x1x4096) ![1, 0, 0] S1x1x4096.size inb_S2x1x4096_S1x1x4096_1_0_0).toLoadRect f0)
          (M1.view.readAt (Elt F) (Rect.unit (s := S2x5x8x2048) ![0, 0, 0, 0] S2x5x8x2048.size inb_S2x5x8x2048_S2x5x8x2048_0_0_0_0).toLoadRect f1)
          (M2.view.readAt (Elt F) (Rect.unit (s := S2x1x128) ![0, 0, 0] S2x1x128.size inb_S2x1x128_S2x1x128_0_0_0).toLoadRect f2)⟩] := rfl

theorem half_load (p : Fin 2) (inb : ∀ a, (![p.val, 0, 0] : Fin 3 → ℕ) a + S1x1x4096.size a ≤ S2x1x4096.size a) :
    M0.view.readAt (Elt F) (Rect.unit (s := S2x1x4096) ![p.val, 0, 0] S1x1x4096.size inb).toLoadRect f0
      = fun y => M0.view.read (Elt F) f0 (ix3 p (y 1) (y 2)) :=
  funext fun x => congrArg (M0.view.read (Elt F) f0) (funext fun a => Fin.ext (by match a with
    | ⟨0, _⟩ => have : (x 0).val < 1 := (x 0).isLt; show p.val + 1 * (x 0).val = p.val; omega
    | ⟨1, _⟩ => show 0 + 1 * (x 1).val = (x 1).val; omega
    | ⟨2, _⟩ => show 0 + 1 * (x 2).val = (x 2).val; omega))

theorem runFin_read : M3.view.read (Elt F) (runFin c M0 h0 M1 h1 M2 h2 M3 h3 f0 f1 f2 f3).1
    = fin (M0.view.read (Elt F) f0) (M1.view.read (Elt F) f1) (M2.view.read (Elt F) f2) := by
  rw [runFin_eq]
  funext y
  refine (View.read_writes_cons_unit_of_mem M3.view _ _ _ [] y y rfl (fun a => by match a with
      | ⟨0, _⟩ => exact (Nat.zero_add _).symm
      | ⟨1, _⟩ => exact (Nat.zero_add _).symm)).trans ?_
  unfold fin
  have e0 := half_load c M0 f0 0 inb_S2x1x4096_S1x1x4096_0_0_0
  have e1 := half_load c M0 f0 1 inb_S2x1x4096_S1x1x4096_1_0_0
  have eC : M1.view.readAt (Elt F) (Rect.unit (s := S2x5x8x2048) ![0, 0, 0, 0] S2x5x8x2048.size inb_S2x5x8x2048_S2x5x8x2048_0_0_0_0).toLoadRect f1
      = M1.view.read (Elt F) f1 :=
    funext fun x => congrArg (M1.view.read (Elt F) f1) (funext fun a => Fin.ext (by match a with
      | ⟨0, _⟩ => show 0 + 1 * (x 0).val = (x 0).val; omega
      | ⟨1, _⟩ => show 0 + 1 * (x 1).val = (x 1).val; omega
      | ⟨2, _⟩ => show 0 + 1 * (x 2).val = (x 2).val; omega
      | ⟨3, _⟩ => show 0 + 1 * (x 3).val = (x 3).val; omega))
  have eD : M2.view.readAt (Elt F) (Rect.unit (s := S2x1x128) ![0, 0, 0] S2x1x128.size inb_S2x1x128_S2x1x128_0_0_0).toLoadRect f2
      = M2.view.read (Elt F) f2 :=
    funext fun x => congrArg (M2.view.read (Elt F) f2) (funext fun a => Fin.ext (by match a with
      | ⟨0, _⟩ => show 0 + 1 * (x 0).val = (x 0).val; omega
      | ⟨1, _⟩ => show 0 + 1 * (x 1).val = (x 1).val; omega
      | ⟨2, _⟩ => show 0 + 1 * (x 2).val = (x 2).val; omega))
  exact congrFun (congr (congr (congr (congrArg k1_pay1 e0) e1) eC) eD) y

end Run

/-! ## The proof data, from any contents of the arrays -/

variable (V : (c : Dev nD) → Valuation τ sig (Elt F)) (c : Dev nD)

/-- The loss of the arrays' contents. -/
def finV : Vec F S1x1 .f32 := fin (V c main_call0_v0_0) (V c main_call0_v0_1) (V c main_call0_v0_2)

/-- What the point does to each window's buffer. -/
def aft1 (w : Fin cfg1.W) : (Y X : (cfg1.win w).block.Idx → Elt F (cfg1.win w).elt) → Prop :=
  match w with
  | ⟨0, _⟩ => fun Y X => X = Y
  | ⟨1, _⟩ => fun Y X => X = Y
  | ⟨2, _⟩ => fun Y X => X = Y
  | ⟨3, _⟩ => fun _ X => X = finV V c

/-- The second launch's proof data. -/
def rd1 : RDat τ (Elt F) Unit ℕ UU ℕ cfg1 c where
  A w := V c (Pipeline.arrRef spec1 w)
  after w _ Y X := aft1 V c w Y X
  Φ _ := Pipeline.scopedRest (Ix := Unit) (Name := ℕ) (U := UU) (Lvl := ℕ) (Val := Elt F) spec1 c
  q _ := fullShare
  owed _ := 0

theorem idx1 : win1_0.index t1_0 = ![0, 0, 0] ∧ win1_1.index t1_0 = ![0, 0, 0, 0] ∧ win1_2.index t1_0 = ![0, 0, 0] := by decide +kernel

theorem fin1_0 (t : Fin cfg1.N) (Y : (cfg1.win 0).block.Idx → Elt F (cfg1.win 0).elt) (h : (rd1 V c).Finds 0 t Y) : Y = V c main_call0_v0_0 := by
  obtain ⟨d, rfl⟩ := ((rd1 V c).finds_of_fetch (fetch1_0 t) Y).mp h
  obtain rfl := fin_N1 t
  have e : (rd1 V c).fetched 0 t1_0 d = (rd1 V c).blockOf 0 t1_0 := rfl
  rw [e]
  funext y
  unfold RDat.blockOf
  show V c main_call0_v0_0 (((cfg1.win 0).blk t1_0).view.emb y) = V c main_call0_v0_0 y
  blk_ext [idx1.1]
theorem fin1_1 (t : Fin cfg1.N) (Y : (cfg1.win 1).block.Idx → Elt F (cfg1.win 1).elt) (h : (rd1 V c).Finds 1 t Y) : Y = V c main_call0_v0_1 := by
  obtain ⟨d, rfl⟩ := ((rd1 V c).finds_of_fetch (fetch1_1 t) Y).mp h
  obtain rfl := fin_N1 t
  have e : (rd1 V c).fetched 1 t1_0 d = (rd1 V c).blockOf 1 t1_0 := rfl
  rw [e]
  funext y
  unfold RDat.blockOf
  show V c main_call0_v0_1 (((cfg1.win 1).blk t1_0).view.emb y) = V c main_call0_v0_1 y
  blk_ext [idx1.2.1]
theorem fin1_2 (t : Fin cfg1.N) (Y : (cfg1.win 2).block.Idx → Elt F (cfg1.win 2).elt) (h : (rd1 V c).Finds 2 t Y) : Y = V c main_call0_v0_2 := by
  obtain ⟨d, rfl⟩ := ((rd1 V c).finds_of_fetch (fetch1_2 t) Y).mp h
  obtain rfl := fin_N1 t
  have e : (rd1 V c).fetched 2 t1_0 d = (rd1 V c).blockOf 2 t1_0 := rfl
  rw [e]
  funext y
  unfold RDat.blockOf
  show V c main_call0_v0_2 (((cfg1.win 2).blk t1_0).view.emb y) = V c main_call0_v0_2 y
  blk_ext [idx1.2.2]

theorem defs₀_row1 (t : Fin cfg1.N) : defs₀ (F := F) .tc cfg1.body (cfg1.bodyArgs t (cfg1.slots t)) = bodyAt1 t := by
  unfold defs₀; rw [Defs.onTc_tc]

theorem body_obligation1 : (rd1 V c).BodyObligation (defs₀ (F := F)) 𝒱₀ () Set.univ := fun t Y hY => by
  rw [bigSep_W1, bigSep_W1, defs₀_row1]
  rw [show (rd1 V c).Φ t.succ = (rd1 V c).Φ t.castSucc from rfl, show (rd1 V c).owesAt () t.succ = (rd1 V c).owesAt () t.castSucc from rfl]
  have e0 := fin1_0 V c t _ (hY 0)
  have e1 := fin1_1 V c t _ (hY 1)
  have e2 := fin1_2 V c t _ (hY 2)
  iintro ⟨HΦ, Howes, H0, H1, H2, H3⟩
  ihave H0 := (Entails.of_eq (owns_pt (F := F) c (win1_0.stage (cfg1.slots t 0)) (hstage1_0 0) (Y 0))) $$ H0
  icases H0 with ⟨%f0, %h0, H0⟩
  ihave H1 := (Entails.of_eq (owns_pt (F := F) c (win1_1.stage (cfg1.slots t 1)) (hstage1_1 0) (Y 1))) $$ H1
  icases H1 with ⟨%f1, %h1, H1⟩
  ihave H2 := (Entails.of_eq (owns_pt (F := F) c (win1_2.stage (cfg1.slots t 2)) (hstage1_2 0) (Y 2))) $$ H2
  icases H2 with ⟨%f2, %h2, H2⟩
  ihave H3 := (Entails.of_eq (owns_pt (F := F) c (win1_3.stage (cfg1.slots t 3)) (hstage1_3 0) (Y 3))) $$ H3
  icases H3 with ⟨%f3, -, H3⟩
  have hr := runFin_read c (win1_0.stage (cfg1.slots t 0)) (hstage1_0 0) (win1_1.stage (cfg1.slots t 1)) (hstage1_1 0)
    (win1_2.stage (cfg1.slots t 2)) (hstage1_2 0) (win1_3.stage (cfg1.slots t 3)) (hstage1_3 0) f0 f1 f2 f3
  have q0 : View.read (Elt F) (win1_0.stage (cfg1.slots t 0)).view f0 = V c main_call0_v0_0 := h0.trans e0
  have q1 : View.read (Elt F) (win1_1.stage (cfg1.slots t 1)).view f1 = V c main_call0_v0_1 := h1.trans e1
  have q2 : View.read (Elt F) (win1_2.stage (cfg1.slots t 2)).view f2 = V c main_call0_v0_2 := h2.trans e2
  rw [q0, q1, q2] at hr
  iapply ((runFin c (win1_0.stage (cfg1.slots t 0)) (hstage1_0 0) (win1_1.stage (cfg1.slots t 1)) (hstage1_1 0)
    (win1_2.stage (cfg1.slots t 2)) (hstage1_2 0) (win1_3.stage (cfg1.slots t 3)) (hstage1_3 0) f0 f1 f2 f3).2 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]
  · iexists (View.read (Elt F) (win1_0.stage (cfg1.slots t 0)).view f0); isplitr; swap
    · iapply (pt_owns (F := F) c (win1_0.stage (cfg1.slots t 0)) (hstage1_0 0) f0); iexact H0
    ipureintro; exact h0
  isplitl [H1]
  · iexists (View.read (Elt F) (win1_1.stage (cfg1.slots t 1)).view f1); isplitr; swap
    · iapply (pt_owns (F := F) c (win1_1.stage (cfg1.slots t 1)) (hstage1_1 0) f1); iexact H1
    ipureintro; exact h1
  isplitl [H2]
  · iexists (View.read (Elt F) (win1_2.stage (cfg1.slots t 2)).view f2); isplitr; swap
    · iapply (pt_owns (F := F) c (win1_2.stage (cfg1.slots t 2)) (hstage1_2 0) f2); iexact H2
    ipureintro; exact h2
  iexists _; isplitr; swap
  · iapply (pt_owns (F := F) c (win1_3.stage (cfg1.slots t 3)) (hstage1_3 0) _); iexact H3
  ipureintro; exact hr

theorem arr_fin (G : Buf (Elt F) ((cfg1.win 3).arr.view.loc (c : Thread nD τ))) (h : (rd1 V c).ArrAt 3 cfg1.N G) : G = finV V c := by
  obtain ⟨X, hX, hA⟩ := RDat.ArrAt.exists_exact (w := 3) (cfg := cfg1) h
  refine (hA (Function.update (fun _ _ _ => Classical.arbitrary _) 3 X) fun u _ _ => by rw [Function.update_self]).trans ?_
  refine Pipeline.Dat.arrAt_eq_of_covers _ 3 _ (by decide +kernel) fun t hf y => ?_
  obtain ⟨Y, -, hr⟩ := hX t t.isLt hf
  have hr' : X t = finV V c := hr
  rw [RDat.withAfter_after, Function.update_self, hr']
  generalize finV V c = R
  obtain rfl := fin_N1 t
  exact congrArg R (funext fun a => by match a with
    | ⟨0, _⟩ => exact Subsingleton.elim (α := Fin 1) _ _
    | ⟨1, _⟩ => exact Subsingleton.elim (α := Fin 1) _ _)

end Cert.Proof.KI

end
-- ==== Proof.KI.Launch.lean ====
module

public import proofs.«01_k».proof.Proof.KI.Fin
public import Idealize.ShloMosaic.Lib.Pipeline.RegionsLoop

/-!
  The program's run: the two launches and the host's copy, from any memory; the arguments stay as they were, every
  counter is zero at the end, and the result is the loss of the arguments.
-/

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F] [Named F]

local notation "𝕄" => MT nD τ sig Unit (Elt F) ℕ UU ℕ

variable (m : (ℓ : Loc nD τ sig) → Buf (Elt F) ℓ)

/-- The unscoped buffers after the first launch. -/
def U1 (c : Dev nD) : Valuation τ sig (Elt F) :=
  Function.update (Function.update (Function.update (V0 m c) main_call0_v0_0 (arr2 m c)) main_call0_v0_1 (arr3 m c)) main_call0_v0_2 (arr4 m c)

/-- What each launch leaves, as the generated valuations take it. -/
def outs : Outs (F := F) := fun J r c =>
  if J = 1 then U1 m c r else Function.update (U1 m c) main_call0_v1 (finV (U1 m) c) r

theorem U1_0 (c : Dev nD) : U1 m c main_call0_v0_0 = arr2 m c := by
  unfold U1
  rw [Function.update_of_ne (by decide), Function.update_of_ne (by decide), Function.update_self]
theorem U1_1 (c : Dev nD) : U1 m c main_call0_v0_1 = arr3 m c := by
  unfold U1
  rw [Function.update_of_ne (by decide), Function.update_self]
theorem U1_2 (c : Dev nD) : U1 m c main_call0_v0_2 = arr4 m c := by
  unfold U1
  rw [Function.update_self]

theorem V1_eq (c : Dev nD) : V1 m (outs m) c = U1 m c := by
  show Function.update (Function.update (Function.update (V0 m c) main_call0_v0_0 (U1 m c main_call0_v0_0)) main_call0_v0_1 (U1 m c main_call0_v0_1)) main_call0_v0_2 (U1 m c main_call0_v0_2) = _
  rw [U1_0, U1_1, U1_2]
  rfl

theorem outs_fin (c : Dev nD) : outs m 2 main_call0_v1 c = finV (U1 m) c := by
  show Function.update (U1 m c) main_call0_v1 (finV (U1 m) c) main_call0_v1 = _
  rw [Function.update_self]

/-- The proof data of both launches. -/
def rdats : (p : Fin 2) → (c : Dev nD) → RDat τ (Elt F) Unit ℕ UU ℕ (Pipeline.pin (pcfgs (F := F)) adm p) c
  | ⟨0, _⟩ => fun c => rd0 m c
  | ⟨1, _⟩ => fun c => rd1 (U1 m) c

/-- Exact data with the same arrays. -/
def anyDats : (p : Fin 2) → (c : Dev nD) → Dat τ (Elt F) Unit ℕ UU ℕ (Pipeline.pin (pcfgs (F := F)) adm p) c
  | ⟨0, _⟩ => fun c => (rd0 m c).withAfter fun _ _ _ => Classical.arbitrary _
  | ⟨1, _⟩ => fun c => (rd1 (U1 m) c).withAfter fun _ _ _ => Classical.arbitrary _

/-- The arrays of exact data are those of the data they come from. -/
theorem arrays_any {cfg : Cfg sig Λ₀} {c : Dev nD} (rd : RDat τ (Elt F) Unit ℕ UU ℕ cfg c)
    (v : (w : Fin cfg.W) → Fin cfg.N → (cfg.win w).block.Idx → Elt F (cfg.win w).elt)
    (A : (w : Fin cfg.W) → Buf (Elt F) ((cfg.win w).arr.view.loc (c.tc : Thread nD τ))) :
    (rd.arrays A : sProp 𝕄) ⊢ (rd.withAfter v).arrays A := .rfl

abbrev L : GSem nD τ sig → Finset Unit := fun _ => ∅
abbrev lv : GSem nD τ sig → Unit → ℕ := fun _ _ => 0

/-- The core owes nothing. -/
abbrev idle (c : Dev nD) : sProp 𝕄 := iprop(∃ W, owes (c : Thread nD τ) (0 : CellTallies nD τ sig Unit) W)

/-- The arrays after a launch, at some contents that they may hold. -/
theorem arraysAt_open {cfg : Cfg sig Λ₀} {c : Dev nD} (rd : RDat τ (Elt F) Unit ℕ UU ℕ cfg c) (n : ℕ) :
    (rd.arraysAt n : sProp 𝕄) ⊢ iprop(∃ A : (w : Fin cfg.W) → Buf (Elt F) ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

set_option backward.isDefEq.respectTransparency.types false in
/-- The first launch, between its thread states. -/
def reg0 : RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 m c
  hwaits := RDat.hwaits_of_owed_zero _ _ _ _ L lv 0 fun _ _ => rfl
  pre c := iprop(unscopedBufs c (fun b => V0 m c b) ∗ idle c)
  post c := iprop(unscopedBufs c (fun b => U1 m c b) ∗ idle c)
  X _ := BI.emp
  Y _ := BI.emp
  Z c := Pipeline.unscopedRest (Ix := Unit) (Name := ℕ) (U := UU) (Lvl := ℕ) spec0 c (fun b => V0 m c b)
  hentry c := by
    rw [Pipeline.ownSems0_none]
    have hsplit := RDat.arrays_of_unscopedBufs (p := 0) (pcfgs (F := F)) adm (rdats m) launch0.win launch0.arr_whole c
      ((rdats m 0 c).share_full fun _ => rfl) (fun b => V0 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = Φ0 m c 0 from rfl]
    iintro ⟨-, -, Hr⟩
    ihave H := (Entails.of_eq (scopedRest0_eq (Ix := Unit) (Name := ℕ) (U := UU) (Lvl := ℕ) (Val := Elt F) c)) $$ Hr
    icases H with ⟨⟨%f, Hs⟩, Hr⟩
    unfold Φ0
    isplitl [Hs]
    · iexists f; isplitr; swap; (· iexact Hs)
      ipureintro; exact fun b _ h => absurd rfl h
    iexact Hr
  hout c := by
    rw [Pipeline.ownSems0_none, show (rdats m 0 c).Φ (Fin.last _) = Φ0 m c (Fin.last _) from rfl]
    unfold Φ0
    iintro ⟨⟨%f, -, Hs⟩, Hr⟩
    isplitr; · iempintro
    isplitr; · iempintro
    iapply (Entails.of_eq (scopedRest0_eq (Ix := Unit) (Name := ℕ) (U := UU) (Lvl := ℕ) (Val := Elt F) c).symm)
    isplitl [Hs]; · iexists f; iexact Hs
    iexact Hr
  hexit c := by
    iintro ⟨Ha, HO, -, Hrest⟩
    ihave H := (arraysAt_open (rdats m 0 c) (Pipeline.pin (pcfgs (F := F)) adm 0).N) $$ Ha
    icases H with ⟨%A, %hB, Ha⟩
    have hA : ∀ w : Fin cfg0.W, (rd0 m c).ArrAt w cfg0.N (A w) := hB
    have hjoin := Pipeline.unscopedBufs_of_arrays (p := 0) (pcfgs (F := F)) adm (Ix := Unit) (Name := ℕ) (U := UU) (Lvl := ℕ) launch0.win launch0.arr_whole c
      (anyDats m) ((anyDats m 0 c).share_full fun _ => rfl) (fun b => V0 m c b) (fun b => U1 m c b) A
      (fun w => by
        fin_cases w
        · have h := hA 0
          rw [(rd0 m c).ArrAt_in 0 rfl] at h
          exact h
        · have h := hA 1
          rw [(rd0 m c).ArrAt_in 1 rfl] at h
          exact h
        · exact (arr_rows m c _ (hA 2)).trans (U1_0 m c).symm
        · exact (arr_cols m c _ (hA 3)).trans (U1_1 m c).symm
        · exact (arr_diag m c _ (hA 4)).trans (U1_2 m c).symm)
      (fun b hb => by
        have h (w : Fin 5) : b ≠ Pipeline.arrRef spec0 w := fun h => hb (h ▸ Finset.mem_image.mpr ⟨w, Finset.mem_univ _, rfl⟩)
        show U1 m c b = V0 m c b
        unfold U1
        rw [Function.update_of_ne (StableHlo.devRef_ne_of_ne (h 4)), Function.update_of_ne (StableHlo.devRef_ne_of_ne (h 3)),
          Function.update_of_ne (StableHlo.devRef_ne_of_ne (h 2))])
    imodintro
    isplitl [Ha Hrest]
    · iapply hjoin
      isplitl [Ha]
      · iapply (arrays_any (rd0 m c) (fun _ _ _ => Classical.arbitrary _) A); iexact Ha
      · iexact Hrest
    unfold RDat.owesAt Pipeline.owesWithin
    icases HO with ⟨%W, -, HO⟩; iexists W; iexact HO

/-- The unscoped buffers after the second launch. -/
abbrev U2 (c : Dev nD) : Valuation τ sig (Elt F) := V2 m (outs m) c

theorem U2_1 (c : Dev nD) : U2 m c main_call0_v1 = finV (U1 m) c := by
  show Function.update (V1 m (outs m) c) main_call0_v1 (outs m 2 main_call0_v1 c) main_call0_v1 = _
  rw [Function.update_self, outs_fin]

theorem U2_of (c : Dev nD) (b : Ref sig .tc) (h : b ≠ main_call0_v1) : U2 m c b = U1 m c b := by
  show Function.update (V1 m (outs m) c) main_call0_v1 (outs m 2 main_call0_v1 c) b = _
  rw [Function.update_of_ne (StableHlo.devRef_ne_of_ne h), V1_eq]

set_option backward.isDefEq.respectTransparency.types false in
/-- The second launch, between its thread states. -/
def reg1 : RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (U1 m) c
  hwaits := RDat.hwaits_of_owed_zero _ _ _ _ L lv 1 fun _ _ => rfl
  pre c := iprop(unscopedBufs c (fun b => U1 m c b) ∗ idle c)
  post c := iprop(unscopedBufs c (fun b => U2 m c b) ∗ idle c)
  X _ := BI.emp
  Y _ := BI.emp
  Z c := Pipeline.unscopedRest (Ix := Unit) (Name := ℕ) (U := UU) (Lvl := ℕ) spec1 c (fun b => U1 m c b)
  hentry c := by
    rw [Pipeline.ownSems0_none]
    have hsplit := RDat.arrays_of_unscopedBufs (p := 1) (pcfgs (F := F)) adm (rdats m) launch1.win launch1.arr_whole c
      ((rdats m 1 c).share_full fun _ => rfl) (fun b => U1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats m 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (rdats m 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    iintro ⟨Ha, HO, -, Hrest⟩
    ihave H := (arraysAt_open (rdats m 1 c) (Pipeline.pin (pcfgs (F := F)) adm 1).N) $$ Ha
    icases H with ⟨%A, %hB, Ha⟩
    have hA : ∀ w : Fin cfg1.W, (rd1 (U1 m) c).ArrAt w cfg1.N (A w) := hB
    have hjoin := Pipeline.unscopedBufs_of_arrays (p := 1) (pcfgs (F := F)) adm (Ix := Unit) (Name := ℕ) (U := UU) (Lvl := ℕ) launch1.win launch1.arr_whole c
      (anyDats m) ((anyDats m 1 c).share_full fun _ => rfl) (fun b => U1 m c b) (fun b => U2 m c b) A
      (fun w => by
        fin_cases w
        · have h := hA 0
          rw [(rd1 (U1 m) c).ArrAt_in 0 rfl] at h
          exact h.trans (U2_of m c main_call0_v0_0 (by decide)).symm
        · have h := hA 1
          rw [(rd1 (U1 m) c).ArrAt_in 1 rfl] at h
          exact h.trans (U2_of m c main_call0_v0_1 (by decide)).symm
        · have h := hA 2
          rw [(rd1 (U1 m) c).ArrAt_in 2 rfl] at h
          exact h.trans (U2_of m c main_call0_v0_2 (by decide)).symm
        · exact (arr_fin (U1 m) c _ (hA 3)).trans (U2_1 m c).symm)
      (fun b hb => U2_of m c b fun h => hb (h ▸ Finset.mem_image.mpr ⟨3, Finset.mem_univ _, rfl⟩))
    imodintro
    isplitl [Ha Hrest]
    · iapply hjoin
      isplitl [Ha]
      · iapply (arrays_any (rd1 (U1 m) c) (fun _ _ _ => Classical.arbitrary _) A); iexact Ha
      · iexact Hrest
    unfold RDat.owesAt Pipeline.owesWithin
    icases HO with ⟨%W, -, HO⟩; iexists W; iexact HO

/-! ## The whole run -/

/-- The program's segments: the two launches, then the host's reshape of the result. -/
abbrev items (_ : Dev nD) : List (RDat.Seg (pcfgs (F := F)) adm (rdats m) () defs₀ 𝒱₀ L lv) :=
  [.region (reg0 m), .region (reg1 m), .host (seg2 m (outs m) 𝒱₀ L lv fun _ c => idle c)]

/-- The result: the loss of the arguments, its shape dropped. -/
def result (c : Dev nD) : Buf (Elt F) ((c : Thread nD τ).loc main_v0) := V3 m (outs m) c main_v0

theorem hmain (c : Dev nD) (Q : PUnit → sProp 𝕄) :
    wp frame (wpE (Pipeline.defs (pcfgs (F := F)) defs₀) (Variants.lift 𝒱₀) (c.tc : Thread nD τ) none) Set.univ (RDat.Seg.run (items m c)) Q
      ⊢ wp frame (wpE (Pipeline.defs (pcfgs (F := F)) defs₀) (Variants.lift 𝒱₀) (c.tc : Thread nD τ) none) Set.univ (main c) Q := by
  rewrite [main_chain c, RDat.Seg.run_eq_chain,
    show (items m c).map RDat.Seg.prog = [
      Prog.lift (.customCall (Pipeline.entry 0) ()),
      Prog.lift (.customCall (Pipeline.entry 1) ()),
      StableHlo.seq hostOps2 ] from rfl]
  dsimp (config := { failIfUnchanged := false }) only
  exact .rfl

/-- What the host's stretch starts from. -/
theorem host_pre (c : Dev nD) :
    ((seg2 m (outs m) 𝒱₀ L lv fun _ c => idle c).pre c : sProp 𝕄)
      = iprop(StableHlo.held (c : Thread nD τ) (Pipeline.ucRefs τ sig) (U2 m c) ∗ idle c) := rfl

/-- What the host's stretch leaves. -/
theorem host_post (c : Dev nD) :
    ((seg2 m (outs m) 𝒱₀ L lv fun _ c => idle c).post c : sProp 𝕄)
      = iprop(StableHlo.held (c : Thread nD τ) (Pipeline.ucRefs τ sig) (V3 m (outs m) c) ∗ idle c) := rfl

theorem reg_host (c : Dev nD) :
    iprop(unscopedBufs c (fun b => U2 m c b) ∗ idle c) ⊢ ((seg2 m (outs m) 𝒱₀ L lv fun _ c => idle c).pre c : sProp 𝕄) := by
  rw [host_pre]
  exact BI.sep_mono (Entails.of_eq (Pipeline.unscopedBufs_held (Ix := Unit) (Name := ℕ) (U := UU) (Lvl := ℕ) c (U2 m c))) (BI.Entails.refl _)

theorem chains (c : Dev nD) : RDat.Seg.ChainsAt c
    (fun c => iprop(unscopedBufs c (fun b => V0 m c b) ∗ idle c)) (items m c)
    (fun c => iprop(StableHlo.held (c : Thread nD τ) (Pipeline.ucRefs τ sig) (V3 m (outs m) c) ∗ ∃ W, owes (c.tc : Thread nD τ) (0 : CellTallies nD τ sig Unit) W)) :=
  ⟨.rfl, .rfl, reg_host m c, Entails.of_eq (host_post m c)⟩

/-- A core keeps, of what the launch gives it, its buffers and its empty debt. -/
theorem launch_keep (ρ : Dev nD → PrngReg) (c : Dev nD) :
    (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : sProp 𝕄)
    ⊢ iprop(unscopedBufs c (fun b => V0 m c b) ∗ idle c) := by
  iintro ⟨Hb, -, HO, -⟩
  isplitl [Hb]; · iexact Hb
  iexists _; iexact HO

/-- Any launch of the program ends, with the loss in the result, the arguments as they were and every counter zero. -/
theorem run (ρ : Dev nD → PrngReg) :
    θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine RDat.θ_run_regions_kit_dev_sems (pcfgs (F := F)) adm (rdats m) () cellOf_inj emb₁ defs₀ 𝒱₀ L lv m ρ main
    (items m)
    (hmain m)
    (fun c => by simp only [items, RDat.Seg.pipes_host, RDat.Seg.pipes_region, RDat.Seg.pipes_nil]; decide) (fun _ => 0) (fun _ _ => rfl) (fun _ => BI.emp)
    (initOf (Pipeline.cells cfgs cellOf_inj) (Pipeline.launchToks cfgs cellOf_inj)) ?_
    (T₀ := fun c => iprop(unscopedBufs c (fun b => V0 m c b) ∗ idle c))
    (Tₙ := fun c => StableHlo.held (c : Thread nD τ) (Pipeline.ucRefs τ sig) (V3 m (outs m) c))
    (hch := chains m)
    (hinit := ?_) (QY := fun c s => s.mem ((c.tc : Thread nD τ).loc main_v0) = result m c
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  · iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(unscopedBufs c (fun b => V0 m c b) ∗ idle c) : sProp 𝕄) :=
      bigSep_mono fun c _ => launch_keep m ρ c
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      have at_ (b : Ref sig .tc) (hb : ¬ (Proc.devRef (τ := τ) .tc b).isScoped) := h (Proc.devRef .tc b) (Finset.mem_filter.mpr ⟨StableHlo.devRef_mem_tcRefs b, hb⟩)
      exact ⟨at_ main_v0 (by decide), (at_ main_arg0 (by decide)).trans (V3_main_arg0 m (outs m) c),
        (at_ main_arg1 (by decide)).trans (V3_main_arg1 m (outs m) c)⟩
    · iexact HSI

end Cert.Proof.KI

end
-- ==== Proof.KB.Frame.lean ====
module

public import proofs.«01_k».proof.Proof.Gen.Kernel.Regions
public import proofs.«01_k».proof.Proof.KI.Launch

/-!
  The float program's frame. It is the text of the real program with each named constant printed as the literal it
  names, so it is that program over the floats once a name is read as its literal; the run proved for every float
  interpretation is then a run of it.
-/

@[expose] public section

set_option maxRecDepth 65536

noncomputable section

namespace Cert.Proof.KB

open Idealize.ShloMosaic Idealize.SL.Sem

/-- A named constant read as the literal it names. -/
@[reducible] def literals : Named Bits where
  named _ _ b := Scalar.ofBits b

/-- The two programs call the same launches and the same copy. -/
theorem main_eq : Cert.Kernel.main (F := Bits) = Cert.KernelIdeal.main (F := Bits) := rfl

/-- The closing kernel is one program. -/
theorem f1_eq : Cert.Kernel.cc1__fin_body (F := Bits) = (letI := literals; Cert.KernelIdeal.cc1__fin_body (F := Bits)) := rfl
/-- The tile kernel is one program. -/
theorem f0_eq : Cert.Kernel.cc0__main_body (F := Bits) = (letI := literals; Cert.KernelIdeal.cc0__main_body (F := Bits)) := rfl

/-- So are the kernels' labels. -/
theorem defs₀_eq : Cert.Kernel.defs₀ (F := Bits) = (letI := literals; Cert.KernelIdeal.defs₀ (F := Bits)) := by
  unfold Cert.Kernel.defs₀ Cert.KernelIdeal.defs₀
  congr 1
  funext l x
  obtain ⟨l, hl⟩ := l
  match l, hl, x with
  | 0, _, (t, s) => dsimp only; rw [f0_eq]; rfl
  | 1, _, (t, s) => dsimp only; rw [f1_eq]

/-- And the whole table of programs. -/
theorem defs_eq : Cert.Kernel.defs (F := Bits) = (letI := literals; Cert.KernelIdeal.defs (F := Bits)) := by
  unfold Cert.Kernel.defs Cert.KernelIdeal.defs
  rw [defs₀_eq]
  rfl

/-- The float program runs to the end, its arguments as they were and every counter zero. -/
theorem run (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  letI := literals
  rw [defs_eq, main_eq]
  exact (θ_run _ _ _).mono (fun r h => ⟨fun c => (h.1 c).2, h.2⟩) (KI.run (F := Bits) m ρ)

end Cert.Proof.KB
-- ==== Proof.Val.Five.lean ====
module

public import Idealize.ShloMosaic.PureOps

/-!
  The host's floor division of an index below 20480 by five: the truncated quotient, less one only where the signs differ.
-/

@[expose] public section

set_option maxRecDepth 16384

namespace Cert.Proof.Val

open Idealize.ShloMosaic

/-- The floor division by five of a nonnegative index, as the host computes it. -/
theorem floor_five : ∀ (i : Fin 160) (j : Fin 128), Scalar.select
      (IntOp.andi
        (IntOp.cmpi CmpIPredicate.ne
          (if BitVec.ofNat 32 (i.val * 128 + j.val) = 0 then 0 else if (BitVec.ofNat 32 (i.val * 128 + j.val)).msb = true then -1 else 1)
          (if (5#32) = 0 then 0 else if BitVec.msb (5#32) = true then -1 else (1 : BitVec 32)))
        (IntOp.cmpi CmpIPredicate.ne (IntOp.remsi ArithUnit.host (BitVec.ofNat 32 (i.val * 128 + j.val)) 5#32) 0#32))
      (IntOp.subi (IntOp.divsi ArithUnit.host (BitVec.ofNat 32 (i.val * 128 + j.val)) 5#32) 1#32)
      (IntOp.divsi ArithUnit.host (BitVec.ofNat 32 (i.val * 128 + j.val)) 5#32) = BitVec.ofNat 32 ((i.val * 128 + j.val) / 5) := by
  decide +kernel

end Cert.Proof.Val

end
-- ==== Proof.Val.RefIdx.lean ====
module

public import proofs.«01_k».proof.Proof.Gen.ReferenceIdeal.Read
public import proofs.«01_k».proof.Proof.Val.Five
public import Idealize.ShloMosaic.Lib.Pointwise
public import Idealize.ShloMosaic.Lib.StableHlo.Predicate

/-!
  The entries the reference picks out: on the rows' side the five views of the image's own text, on the columns' side the
  column's own image, a fifth of the column's index.
-/

@[expose] public section

set_option maxRecDepth 16384

noncomputable section

namespace Cert.Proof.Val

open Cert.ReferenceIdeal Cert.ReferenceIdeal.Gen Cert.ReferenceIdeal.Read

open Idealize.ShloMosaic
open Idealize.ShloMosaic.TcCoe

variable (x0 : (⟨S4096x512, .f32⟩ : BufTy).Contents (Elt Ideal)) (x1 : (⟨S4096x5x512, .f32⟩ : BufTy).Contents (Elt Ideal))

/-- A nonnegative index is left as it is. -/
theorem sel_nonneg (n : ℕ) (hn : n < 2 ^ 31) (u w : BitVec 32) :
    Scalar.select (IntOp.cmpi .slt (BitVec.ofNat 32 n) 0#32) u w = w := by
  have h : (BitVec.ofNat 32 n).slt 0#32 = false := by
    rw [BitVec.slt_zero_eq_msb, BitVec.msb_eq_decide]
    simp
    omega
  have e : IntOp.cmpi .slt (BitVec.ofNat 32 n) 0#32 = 0#1 := by
    show BitVec.ofBool ((BitVec.ofNat 32 n).slt 0#32) = 0#1
    rw [h]; rfl
  rw [e]; rfl

theorem v29_at (a : Fin 4096) (z : Fin 2) : val_main_v29 (F := Ideal) (ix2 a z) = BitVec.ofNat 32 a.val := by
  pointwise [val_main_v29, val_main_v28, val_main_v27, val_main_v26, val_main_v25, val_main_v24, val_main_v23, val_main_v22, val_main_v21, val_main_v20, val_main_v19, val_main_v18, val_main_v17, val_main_v16, val_main_v15, val_main_c, val_main_c_4]
  rw [sel_nonneg _ (by omega), sel_nonneg _ (by omega), dite_eq_ite, ite_self]

/-- A nonnegative index read signed. -/
theorem toNat_ofNat (n : ℕ) (hn : n < 2 ^ 31) : (BitVec.ofNat 32 n).toInt.toNat = n := by
  rw [StableHlo.Predicate.toInt_ofNat_small n hn]
  rfl

theorem v30_at (a : Fin 4096) (v : Fin 5) : val_main_v30 x0 x1 (ix2 a v) = val_main_v14 x0 x1 (ix3 a a v) := by
  have e : ∀ y : S4096x2.Idx, (y 0).val = a.val → (val_main_v29 (F := Ideal) y).toInt.toNat = a.val := fun y h => by
    rw [eq_ix2 y, show y 0 = a from Fin.ext h]
    exact (congrArg (fun b : BitVec 32 => b.toInt.toNat) (v29_at a (y 1))).trans (toNat_ofNat _ (by omega))
  unfold val_main_v30 Host.gather
  refine congrArg _ (funext fun b => Fin.ext ?_)
  match b with
  | ⟨0, _⟩ =>
    show GatherDims.start _ _ _ 0 + GatherDims.batchCoord _ _ 0 + GatherDims.offCoord _ _ 0 = a.val
    rw [GatherDims.batchCoord_eq_zero _ _ _ (by decide), GatherDims.offCoord_eq_zero _ _ _ (by decide)]
    unfold GatherDims.start
    rw [dif_pos (by decide), e _ rfl]
    show min a.val (4096 - 1) + 0 + 0 = a.val
    omega
  | ⟨1, _⟩ =>
    show GatherDims.start _ _ _ 1 + GatherDims.batchCoord _ _ 1 + GatherDims.offCoord _ _ 1 = a.val
    rw [GatherDims.batchCoord_eq_zero _ _ _ (by decide), GatherDims.offCoord_eq_zero _ _ _ (by decide)]
    unfold GatherDims.start
    rw [dif_pos (by decide), e _ rfl]
    show min a.val (4096 - 1) + 0 + 0 = a.val
    omega
  | ⟨2, _⟩ =>
    show GatherDims.start _ _ _ 2 + GatherDims.batchCoord _ _ 2 + GatherDims.offCoord _ _ 2 = v.val
    rw [GatherDims.batchCoord_eq_zero _ _ _ (by decide)]
    unfold GatherDims.start
    rw [dif_neg (by decide)]
    unfold GatherDims.offCoord
    rw [dif_pos (by decide)]
    exact (Nat.zero_add _).trans rfl

theorem v57_at (n : Fin 20480) : val_main_v57 (F := Ideal) (ix1 n) = BitVec.ofNat 32 n.val := by
  pointwise [val_main_v57, val_main_v54, val_main_v56, val_main_v47, val_main_v53, val_main_c_15]
  rw [sel_nonneg _ (by omega)]

theorem v46_at (n : Fin 20480) : val_main_v46 (F := Ideal) (ix1 n) = BitVec.ofNat 32 (n.val / 5) := by
  pointwise [val_main_v46, val_main_call0_v11, val_main_call0_v13, val_main_call0_v12, val_main_call0_v2, val_main_call0_v10, val_main_call0_v6,
    val_main_call0_v9, val_main_call0_v8, val_main_call0_v7, val_main_call0_v5, val_main_call0_v4, val_main_call0_v3, val_main_call0_v1, val_main_call0_v0, val_main_v45,
    val_main_c_12, val_main_call0_c, val_main_call0_c_0]
  have h := floor_five ⟨n.val / 128, by omega⟩ ⟨n.val % 128, by omega⟩
  have e : n.val / 128 * 128 + n.val % 128 = n.val := by omega
  simp only [e] at h
  exact h

theorem v60_at (n : Fin 20480) (z : Fin 2) : val_main_v60 (F := Ideal) (ix2 n z) = if z.val < 1 then BitVec.ofNat 32 (n.val / 5) else BitVec.ofNat 32 n.val := by
  pointwise [val_main_v60, val_main_v59, val_main_v58, val_main_v52, val_main_v49, val_main_v48, val_main_c_13]
  rw [v46_at, v57_at, sel_nonneg _ (by omega)]
  split_ifs <;> rfl

theorem v61_at (n : Fin 20480) : val_main_v61 x0 x1 (ix1 n) = val_main_v5 x0 x1 (ix2 ⟨n.val / 5, by omega⟩ n) := by
  have e0 : ∀ y : S20480x2.Idx, (y 0).val = n.val → (y 1).val = 0 → (val_main_v60 (F := Ideal) y).toInt.toNat = n.val / 5 := fun y h h' => by
    rw [eq_ix2 y, show y 0 = n from Fin.ext h]
    refine (congrArg (fun b : BitVec 32 => b.toInt.toNat) ((v60_at n (y 1)).trans (if_pos (by omega)))).trans (toNat_ofNat _ (by omega))
  have e1 : ∀ y : S20480x2.Idx, (y 0).val = n.val → (y 1).val = 1 → (val_main_v60 (F := Ideal) y).toInt.toNat = n.val := fun y h h' => by
    rw [eq_ix2 y, show y 0 = n from Fin.ext h]
    refine (congrArg (fun b : BitVec 32 => b.toInt.toNat) ((v60_at n (y 1)).trans (if_neg (by omega)))).trans (toNat_ofNat _ (by omega))
  unfold val_main_v61 Host.gather
  refine congrArg _ (funext fun b => Fin.ext ?_)
  match b with
  | ⟨0, _⟩ =>
    show GatherDims.start _ _ _ 0 + GatherDims.batchCoord _ _ 0 + GatherDims.offCoord _ _ 0 = n.val / 5
    rw [GatherDims.batchCoord_eq_zero _ _ _ (by decide), GatherDims.offCoord_eq_zero _ _ _ (by decide)]
    unfold GatherDims.start
    rw [dif_pos (by decide), e0 _ rfl rfl]
    show min (n.val / 5) (4096 - 1) + 0 + 0 = n.val / 5
    omega
  | ⟨1, _⟩ =>
    show GatherDims.start _ _ _ 1 + GatherDims.batchCoord _ _ 1 + GatherDims.offCoord _ _ 1 = n.val
    rw [GatherDims.batchCoord_eq_zero _ _ _ (by decide), GatherDims.offCoord_eq_zero _ _ _ (by decide)]
    unfold GatherDims.start
    rw [dif_pos (by decide), e1 _ rfl rfl]
    show min n.val (20480 - 1) + 0 + 0 = n.val
    omega

end Cert.Proof.Val

end
-- ==== Proof.Val.Block.lean ====
module

public import proofs.«01_k».proof.Proof.KI.Step
public import Idealize.ShloMosaic.Lib.Pointwise
public import Idealize.ShloMosaic.PureOps.Ideal.Laws

/-!
  The pieces a point of the main launch computes, over the reals: where the blocks hold real numbers, so do the
  similarities, their powers of two and every sum of these, and the sums are the plain ones.
-/

@[expose] public section

set_option maxRecDepth 16384

noncomputable section

namespace Cert.Proof.Val

open Cert.KernelIdeal Cert.KernelIdeal.Gen Cert.Proof.KI

open Idealize.ShloMosaic
open Idealize.ShloMosaic.TcCoe

/-- The scale: one over the temperature, in base two. -/
def c1 : ℝ := (Real.log 2)⁻¹ * (7 / 100)⁻¹

theorem named_c1 : (Named.named (F := Ideal) κ "log2e_over_t" 0x41A4E123#32 : Ideal .f32) = ((c1 : ℝ) : EReal) :=
  IdealRules.named_const.ideal_named_scalar _ _ _ _ rfl

/-- A sum of real numbers, taken among the extended reals, is their sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

variable (X : Vec Ideal S1024x512 .f32) (T : Vec Ideal S5x1024x512 .f32) (m : FVec Ideal S512x512 .f32) (B : Vec Ideal S1x512x512 .f32)

/-- A scaled half-block of images. -/
theorem im_at (xr : ℕ → Fin 512 → ℝ) (hX : ∀ (r : Fin 1024) (d : Fin 512), X (ix2 r d) = ((xr r.val d : ℝ) : EReal))
    (h : Fin 2) (r d : Fin 512) : im X h (ix2 r d) = ((xr (512 * h.val + r.val) d * c1 : ℝ) : EReal) := by
  have e : im X h (ix2 r d) = X (ix2 ⟨512 * h.val + r.val, by omega⟩ d) * ((c1 : ℝ) : EReal) := by
    rw [← named_c1]
    match h with
    | ⟨0, _⟩ => unfold im; pointwise [k0_pay9]
    | ⟨1, _⟩ => unfold im; pointwise [k0_pay9]
  rw [e, hX, ← EReal.coe_mul]

/-- A half-block of one text plane. -/
theorem th_at (wr : Fin 5 → ℕ → Fin 512 → ℝ) (hT : ∀ (v : Fin 5) (r : Fin 1024) (d : Fin 512), T (ix3 v r d) = ((wr v r.val d : ℝ) : EReal))
    (v : Fin 5) (h : Fin 2) (r d : Fin 512) : th T v h (ix3 0 r d) = ((wr v (512 * h.val + r.val) d : ℝ) : EReal) := by
  have e : th T v h (ix3 0 r d) = T (ix3 v ⟨512 * h.val + r.val, by omega⟩ d) := by
    unfold th; pointwise
  rw [e, hT]

variable (a b : ℕ → Fin 512 → ℝ)

/-- The inner product of two rows. -/
def inn (p q : Fin 512 → ℝ) : ℝ := ∑ d, p d * q d
/-- The power of two the kernel sums. -/
def pw (s : ℝ) : ℝ := Real.rpow 2 (s - c1)

variable (hm : ∀ r d : Fin 512, m (ix2 r d) = ((a r.val d : ℝ) : EReal)) (hB : ∀ r d : Fin 512, B (ix3 0 r d) = ((b r.val d : ℝ) : EReal))
include hm hB

theorem sim_at (r l : Fin 512) : k0_pay16 m B (ix2 r l) = ((inn (a r.val) (b l.val) : ℝ) : EReal) := by
  pointwise [k0_pay16]
  refine (Finset.sum_congr rfl fun d _ => ?_).trans (coe_sum Finset.univ fun d => a r.val d * b l.val d)
  rw [hm, hB, ← EReal.coe_mul]

theorem pw_at (r l : Fin 512) : k0_pay17 m B (ix2 r l) = ((pw (inn (a r.val) (b l.val)) : ℝ) : EReal) := by
  have e : k0_pay17 m B (ix2 r l) = Ideal.exp2 (k0_pay16 m B (ix2 r l) - Named.named (F := Ideal) κ "log2e_over_t" 0x41A4E123#32) := rfl
  rw [e, named_c1, sim_at m B a b hm hB, ← EReal.coe_sub, Ideal.exp2_coe]
  rfl

theorem cs_at (s : Fin 8) (l : Fin 512) :
    cs m B (ix2 s l) = ((∑ k : Fin 64, pw (inn (a (8 * k.val + s.val)) (b l.val)) : ℝ) : EReal) := by
  have e : cs m B (ix2 s l) = ∑ k : Fin 64, k0_pay17 m B (ix2 ⟨8 * k.val + s.val, by omega⟩ l) := by
    unfold cs k0_pay19
    generalize k0_pay17 m B = z
    pointwise
    exact Finset.sum_congr rfl fun k _ => by congr 2; exact Fin.ext (by show k.val * 8 + s.val = 8 * k.val + s.val; omega)
  rw [e, ← coe_sum]
  exact Finset.sum_congr rfl fun k _ => pw_at m B a b hm hB _ _

theorem lanes_at (A : FVec Ideal S512x128 .f32) (r : Fin 512) (q : Fin 128) : k0_pay18 m A B (ix2 r q) = A (ix2 r q)
    + ((∑ k : Fin 4, pw (inn (a r.val) (b (128 * k.val + q.val))) : ℝ) : EReal) := by
  have e : k0_pay18 m A B (ix2 r q) = A (ix2 r q) + ∑ k : Fin 4, k0_pay17 m B (ix2 r ⟨128 * k.val + q.val, by omega⟩) := by
    unfold k0_pay18
    generalize k0_pay17 m B = z
    pointwise
    simp [Fin.sum_univ_four, add_assoc]
  rw [e, ← coe_sum]
  exact congrArg (A (ix2 r q) + ·) (Finset.sum_congr rfl fun k _ => pw_at m B a b hm hB _ _)

omit hB

/-- The lane sums over the ten half-blocks. -/
theorem rs_at (wr : Fin 5 → ℕ → Fin 512 → ℝ) (hT : ∀ (v : Fin 5) (r : Fin 1024) (d : Fin 512), T (ix3 v r d) = ((wr v r.val d : ℝ) : EReal))
    (r : Fin 512) (q : Fin 128) :
    rs m T (ix2 r q) = ((∑ v : Fin 5, ∑ h : Fin 2, ∑ k : Fin 4, pw (inn (a r.val) (wr v (512 * h.val + (128 * k.val + q.val)))) : ℝ) : EReal) := by
  unfold rs ord
  have L := fun (v : Fin 5) (h : Fin 2) (A : FVec Ideal S512x128 .f32) =>
    lanes_at m (th T v h) a (fun n => wr v (512 * h.val + n)) hm (fun r d => th_at T wr hT v h r d) A r q
  simp only [List.foldl]
  simp only [L]
  generalize hS : (fun (v : Fin 5) (h : Fin 2) => (∑ k : Fin 4, pw (inn (a r.val) (wr v (512 * h.val + (128 * k.val + q.val)))) : ℝ)) = S
  have hS' : ∀ (v : Fin 5) (h : Fin 2), (∑ k : Fin 4, pw (inn (a r.val) (wr v (512 * h.val + (128 * k.val + q.val)))) : ℝ) = S v h := fun v h => by rw [← hS]
  simp only [hS']
  rw [show (broadcast S512x128 (Scalar.ofBits .f32 0x00000000#32) : FVec Ideal S512x128 .f32) (ix2 r q) = 0 from Ideal.ofBits_zero_f32]
  simp only [Fin.sum_univ_five, Fin.sum_univ_two, zero_add, EReal.coe_add, add_assoc]

theorem rsum_at (wr : Fin 5 → ℕ → Fin 512 → ℝ) (hT : ∀ (v : Fin 5) (r : Fin 1024) (d : Fin 512), T (ix3 v r d) = ((wr v r.val d : ℝ) : EReal))
    (r : Fin 512) :
    rsum m T (ix1 r) = ((∑ q : Fin 128, ∑ v : Fin 5, ∑ h : Fin 2, ∑ k : Fin 4, pw (inn (a r.val) (wr v (512 * h.val + (128 * k.val + q.val)))) : ℝ) : EReal) := by
  have e : rsum m T (ix1 r) = ∑ q : Fin 128, rs m T (ix2 r q) := by
    unfold rsum
    generalize rs m T = z
    pointwise
  rw [e, ← coe_sum]
  exact Finset.sum_congr rfl fun q _ => rs_at T m a hm wr hT r q

omit hm

/-- A sum that a comparison of positions leaves one term of. -/
theorem pick (u : FVec Ideal S512x512 .f32) (n : ℕ) (hn : n < 512) :
    (∑ x : Fin 512, Scalar.select (IntOp.cmpi .eq (BitVec.ofNat 32 x.val) (BitVec.ofNat 32 n)) (u (ix2 x ⟨n, hn⟩)) (0 : Ideal .f32) : EReal) = u (ix2 ⟨n, hn⟩ ⟨n, hn⟩) := by
  refine (Finset.sum_eq_single (⟨n, hn⟩ : Fin 512) (fun x _ hx => ?_) (fun h => absurd (Finset.mem_univ _) h)).trans ?_
  · have hne : BitVec.ofNat 32 x.val ≠ BitVec.ofNat 32 n := fun e => hx (Fin.ext (by
      have := congrArg BitVec.toNat e
      simp only [BitVec.toNat_ofNat] at this
      have := x.isLt
      show x.val = n
      omega))
    have hb : (BitVec.ofNat 32 x.val == BitVec.ofNat 32 n) = false := beq_eq_false_iff_ne.mpr hne
    simp only [Scalar.select, IntOp.cmpi, hb]
    rfl
  · simp [Scalar.select, IntOp.cmpi]

/-- One step of the diagonal: its entries, four to a lane, added to what was there. -/
theorem diag_at (u : FVec Ideal S512x512 .f32) (acc : Vec Ideal S1x1x128 .f32) (l : Fin 128) :
    k0_pay21 u acc (ix3 0 0 l) = acc (ix3 0 0 l) + ∑ k : Fin 4, u (ix2 ⟨128 * k.val + l.val, by omega⟩ ⟨128 * k.val + l.val, by omega⟩) := by
  pointwise [k0_pay21]
  rw [pick u l.val, pick u (128 + l.val), pick u (256 + l.val), pick u (384 + l.val)]
  simp [Fin.sum_univ_four]

/-- The diagonal of one image block and one text block. -/
theorem diagOn_at (xr : ℕ → Fin 512 → ℝ) (hX : ∀ (r : Fin 1024) (d : Fin 512), X (ix2 r d) = ((xr r.val d : ℝ) : EReal))
    (wr : Fin 5 → ℕ → Fin 512 → ℝ) (hT : ∀ (v : Fin 5) (r : Fin 1024) (d : Fin 512), T (ix3 v r d) = ((wr v r.val d : ℝ) : EReal))
    (acc : Vec Ideal S1x1x128 .f32) (l : Fin 128) :
    diagOn X T acc (ix3 0 0 l) = acc (ix3 0 0 l) + ((∑ h : Fin 2, ∑ v : Fin 5, ∑ k : Fin 4,
      inn (fun d => xr (512 * h.val + (128 * k.val + l.val)) d * c1) (wr v (512 * h.val + (128 * k.val + l.val))) : ℝ) : EReal) := by
  have L := fun (v : Fin 5) (h : Fin 2) (A : Vec Ideal S1x1x128 .f32) => (diag_at (sim (im X h) (th T v h)) A l).trans
    (congrArg (A (ix3 0 0 l) + ·) ((Finset.sum_congr rfl fun (k : Fin 4) _ => sim_at (im X h) (th T v h) (fun n d => xr (512 * h.val + n) d * c1)
      (fun n => wr v (512 * h.val + n)) (fun r d => im_at X xr hX h r d) (fun r d => th_at T wr hT v h r d) ⟨128 * k.val + l.val, by omega⟩ ⟨128 * k.val + l.val, by omega⟩).trans
      (coe_sum Finset.univ fun k : Fin 4 => inn (fun d => xr (512 * h.val + (128 * k.val + l.val)) d * c1) (wr v (512 * h.val + (128 * k.val + l.val))))))
  unfold diagOn
  simp only [List.foldl]
  simp only [L]
  generalize hS : (fun (v : Fin 5) (h : Fin 2) => (∑ k : Fin 4, inn (fun d => xr (512 * h.val + (128 * k.val + l.val)) d * c1) (wr v (512 * h.val + (128 * k.val + l.val))) : ℝ)) = S
  have hS' : ∀ (v : Fin 5) (h : Fin 2), (∑ k : Fin 4, inn (fun d => xr (512 * h.val + (128 * k.val + l.val)) d * c1) (wr v (512 * h.val + (128 * k.val + l.val))) : ℝ) = S v h := fun v h => by rw [← hS]
  simp only [hS']
  simp only [Fin.sum_univ_five, Fin.sum_univ_two, EReal.coe_add, add_assoc]

end Cert.Proof.Val

end
-- ==== Proof.Val.Arr.lean ====
module

public import proofs.«01_k».proof.Proof.KI.Arr0
public import proofs.«01_k».proof.Proof.Val.Block

/-!
  The main launch's three arrays over the reals: the row sums of a half, its column sums and its diagonal, each a plain
  sum over the positions of the half's tiles.
-/

@[expose] public section

set_option maxRecDepth 16384

noncomputable section

namespace Cert.Proof.Val

open Cert.KernelIdeal Cert.KernelIdeal.Gen Cert.Proof.KI

open Idealize.ShloMosaic
open Idealize.ShloMosaic.TcCoe

/-- The place of text `512 h + 128 k + q` of tile `j` of half `p`. -/
def at5 (p j h k q : ℕ) : ℕ := 1024 * (2 * p + j) + (512 * h + (128 * k + q))

section
variable (xr : ℕ → Fin 512 → ℝ) (wr : ℕ → Fin 5 → Fin 512 → ℝ)

/-- The scaled similarity of image `a` and view `v` of text `b`. -/
def sc (a b : ℕ) (v : Fin 5) : ℝ := inn (fun d => xr a d * c1) (wr b v)
/-- Its shifted power of two. -/
def ex (a b : ℕ) (v : Fin 5) : ℝ := pw (sc xr wr a b v)

end

variable (m : (ℓ : Loc nD τ sig) → Buf (Elt Ideal) ℓ) (c : Dev nD)
  (xr : ℕ → Fin 512 → ℝ) (wr : ℕ → Fin 5 → Fin 512 → ℝ)
  (hI : ∀ (a : Fin 4096) (d : Fin 512), argI m c (ix2 a d) = ((xr a.val d : ℝ) : EReal))
  (hT : ∀ (b : Fin 4096) (v : Fin 5) (d : Fin 512), argT m c (ix3 b v d) = ((wr b.val v d : ℝ) : EReal))

section
include hI
theorem xbl_at (k : Fin 4) (r : Fin 1024) (d : Fin 512) : xbl m c k (ix2 r d) = ((xr (1024 * k.val + r.val) d : ℝ) : EReal) :=
  hI ⟨1024 * k.val + r.val, by omega⟩ d
end

section
include hT
theorem tbl_at (k : Fin 4) (v : Fin 5) (r : Fin 1024) (d : Fin 512) : tbl m c k (ix3 v r d) = ((wr (1024 * k.val + r.val) v d : ℝ) : EReal) :=
  hT ⟨1024 * k.val + r.val, by omega⟩ v d
end

/-- Zero and two real terms, added in order. -/
theorem two_terms (u v : Ideal .f32) (r s : ℝ) (hu : u = ((r : ℝ) : EReal)) (hv : v = ((s : ℝ) : EReal)) :
    FloatOps.addf (FloatOps.addf (zeroF : Ideal .f32) u) v = ((r : ℝ) : EReal) + ((s : ℝ) : EReal) := by
  subst hu; subst hv
  show (Ideal.ofBits .f32 0x00000000#32 + _ + _ : EReal) = _
  rw [Ideal.ofBits_zero_f32, zero_add]

/-- Zero and eight real terms, added in order. -/
theorem eight_terms (u : Fin 4 → Fin 2 → Ideal .f32) (r : Fin 4 → Fin 2 → ℝ) (h : ∀ k g, u k g = ((r k g : ℝ) : EReal)) :
    FloatOps.addf (FloatOps.addf (FloatOps.addf (FloatOps.addf (FloatOps.addf (FloatOps.addf (FloatOps.addf (FloatOps.addf (zeroF : Ideal .f32)
      (u 0 0)) (u 0 1)) (u 1 0)) (u 1 1)) (u 2 0)) (u 2 1)) (u 3 0)) (u 3 1) = ((∑ k : Fin 4, ∑ g : Fin 2, r k g : ℝ) : EReal) := by
  simp only [h]
  show (Ideal.ofBits .f32 0x00000000#32 + _ + _ + _ + _ + _ + _ + _ + _ : EReal) = _
  rw [Ideal.ofBits_zero_f32, zero_add]
  simp only [Fin.sum_univ_four, Fin.sum_univ_two, EReal.coe_add, ← add_assoc]

include hI hT

/-- A row's sum over one half. -/
theorem rowF_at (p : Fin 2) (a : Fin 4096) : rowF m c p (ix3 0 0 a)
    = ((∑ j : Fin 2, ∑ q : Fin 128, ∑ v : Fin 5, ∑ h : Fin 2, ∑ k : Fin 4, ex xr wr a.val (at5 p.val j.val h.val k.val q.val) v : ℝ) : EReal) := by
  have ha := a.isLt
  have e : ∀ j : Fin 2, rsum (im (xbl m c ⟨a.val / 1024, by omega⟩) ⟨a.val % 1024 / 512, by omega⟩) (tbl m c (tix p j)) (ix1 ⟨a.val % 512, by omega⟩)
      = ((∑ q : Fin 128, ∑ v : Fin 5, ∑ h : Fin 2, ∑ k : Fin 4, ex xr wr a.val (at5 p.val j.val h.val k.val q.val) v : ℝ) : EReal) := fun j => by
    have t := rsum_at (tbl m c (tix p j)) (im (xbl m c ⟨a.val / 1024, by omega⟩) ⟨a.val % 1024 / 512, by omega⟩)
      (fun n d => xr (1024 * (a.val / 1024) + (512 * (a.val % 1024 / 512) + n)) d * c1)
      (fun r d => im_at _ (fun n d => xr (1024 * (a.val / 1024) + n) d) (fun r d => xbl_at m c xr hI _ r d) _ r d)
      (fun v n => wr (1024 * (2 * p.val + j.val) + n) v) (fun v r d => tbl_at m c wr hT (tix p j) v r d) ⟨a.val % 512, by omega⟩
    have ea : 1024 * (a.val / 1024) + (512 * (a.val % 1024 / 512) + a.val % 512) = a.val := by omega
    simp only [ea] at t
    exact t
  rw [Fin.sum_univ_two, EReal.coe_add]
  exact two_terms _ _ _ _ (e 0) (e 1)

/-- A column's sum over the rows of one place in eight. -/
theorem colF_at (p : Fin 2) (v : Fin 5) (s : Fin 8) (t : Fin 2048) : colF m c p (ix4 0 v s t)
    = ((∑ k : Fin 4, ∑ g : Fin 2, ∑ i : Fin 64, ex xr wr (1024 * k.val + (512 * g.val + (8 * i.val + s.val))) (2048 * p.val + t.val) v : ℝ) : EReal) := by
  have ht := t.isLt
  have e : ∀ (k : Fin 4) (g : Fin 2), cs (im (xbl m c k) g) (th (tbl m c (tix p ⟨t.val / 1024, by omega⟩)) v ⟨t.val % 1024 / 512, by omega⟩) (ix2 s ⟨t.val % 512, by omega⟩)
      = ((∑ i : Fin 64, ex xr wr (1024 * k.val + (512 * g.val + (8 * i.val + s.val))) (2048 * p.val + t.val) v : ℝ) : EReal) := fun k g => by
    have u := cs_at (im (xbl m c k) g) (th (tbl m c (tix p ⟨t.val / 1024, by omega⟩)) v ⟨t.val % 1024 / 512, by omega⟩)
      (fun n d => xr (1024 * k.val + (512 * g.val + n)) d * c1)
      (fun n => wr (1024 * (2 * p.val + t.val / 1024) + (512 * (t.val % 1024 / 512) + n)) v)
      (fun r d => im_at _ (fun n d => xr (1024 * k.val + n) d) (fun r d => xbl_at m c xr hI _ r d) _ r d)
      (fun r d => th_at _ (fun v n => wr (1024 * (2 * p.val + t.val / 1024) + n) v) (fun v r d => tbl_at m c wr hT (tix p ⟨t.val / 1024, by omega⟩) v r d) v _ r d)
      s ⟨t.val % 512, by omega⟩
    have eb : 1024 * (2 * p.val + t.val / 1024) + (512 * (t.val % 1024 / 512) + t.val % 512) = 2048 * p.val + t.val := by omega
    simp only [eb] at u
    exact u
  exact eight_terms (fun k g => cs (im (xbl m c k) g) (th (tbl m c (tix p ⟨t.val / 1024, by omega⟩)) v ⟨t.val % 1024 / 512, by omega⟩) (ix2 s ⟨t.val % 512, by omega⟩)) _ e

/-- A lane's part of the diagonal of one half. -/
theorem diagF_at (p : Fin 2) (l : Fin 128) : diagF m c p (ix3 0 0 l)
    = ((∑ j : Fin 2, ∑ h : Fin 2, ∑ v : Fin 5, ∑ k : Fin 4, sc xr wr (at5 p.val j.val h.val k.val l.val) (at5 p.val j.val h.val k.val l.val) v : ℝ) : EReal) := by
  have e := fun (j : Fin 2) (acc : Vec Ideal S1x1x128 .f32) => diagOn_at (xbl m c (tix p j)) (tbl m c (tix p j)) (fun n d => xr (1024 * (2 * p.val + j.val) + n) d)
    (fun r d => xbl_at m c xr hI (tix p j) r d) (fun v n => wr (1024 * (2 * p.val + j.val) + n) v) (fun v r d => tbl_at m c wr hT (tix p j) v r d) acc l
  unfold diagF
  rw [e 1, e 0, show (k0_pay8 : FVec Ideal S1x1x128 .f32) (ix3 0 0 l) = 0 from Ideal.ofBits_zero_f32, zero_add, ← EReal.coe_add]
  exact congrArg _ (Fin.sum_univ_two fun j : Fin 2 => ∑ h : Fin 2, ∑ v : Fin 5, ∑ k : Fin 4,
    sc xr wr (at5 p.val j.val h.val k.val l.val) (at5 p.val j.val h.val k.val l.val) v).symm

end Cert.Proof.Val

end
-- ==== Proof.Val.Fin.lean ====
module

public import proofs.«01_k».proof.Proof.KI.Fin
public import proofs.«01_k».proof.Proof.Val.Block

/-!
  The second launch over the reals: the loss as a real number of the row sums, the column sums and the diagonal.
-/

@[expose] public section

set_option maxRecDepth 16384

noncomputable section

namespace Cert.Proof.Val

open Cert.KernelIdeal Cert.KernelIdeal.Gen Cert.Proof.KI

open Idealize.ShloMosaic
open Idealize.ShloMosaic.TcCoe

theorem named_ln2 : (Named.named (F := Ideal) κ "ln2" 0x3F317218#32 : Ideal .f32) = ((Real.log 2 : ℝ) : EReal) :=
  IdealRules.named_const.ideal_named_scalar _ _ _ _ rfl

theorem named_two : (Named.named (F := Ideal) κ "two_over_t" 0x41E49249#32 : Ideal .f32) = ((2 * (7 / 100)⁻¹ : ℝ) : EReal) :=
  IdealRules.named_const.ideal_named_scalar _ _ _ _ rfl

/-! ## The literals -/

theorem lit_4096 : Ideal.ofBits .f32 0x45800000#32 = ((4096 : ℝ) : EReal) := by
  simp only [Ideal.ofBits, Ideal.ieee]; simp; rw [← EReal.coe_mul]; norm_num
theorem lit_20480 : Ideal.ofBits .f32 0x46A00000#32 = ((20480 : ℝ) : EReal) := by
  simp only [Ideal.ofBits, Ideal.ieee]; simp; rw [← EReal.coe_mul]; norm_num
theorem lit_two : Ideal.ofBits .f32 0x40000000#32 = ((2 : ℝ) : EReal) := by
  simp only [Ideal.ofBits, Ideal.ieee]; simp; rw [← EReal.coe_mul]; norm_num
theorem lit_half : Ideal.ofBits .f32 0x3F000000#32 = ((1 / 2 : ℝ) : EReal) := by
  simp only [Ideal.ofBits, Ideal.ieee]; simp; rw [← EReal.coe_mul]; norm_num
theorem lit_five : Ideal.ofBits .f32 0x40A00000#32 = ((5 : ℝ) : EReal) := by
  simp only [Ideal.ofBits, Ideal.ieee]; simp; rw [← EReal.coe_mul]; norm_num
theorem lit_seven : Ideal.ofBits .f32 0x40E00000#32 = ((7 : ℝ) : EReal) := by
  simp only [Ideal.ofBits, Ideal.ieee]; simp; rw [← EReal.coe_mul]; norm_num
theorem lit_hundred : Ideal.ofBits .f32 0x42C80000#32 = ((100 : ℝ) : EReal) := by
  simp only [Ideal.ofBits, Ideal.ieee]; simp; rw [← EReal.coe_mul]; norm_num
theorem lit_bot : Ideal.ofBits .f32 0xFF800000#32 = (⊥ : EReal) := by
  simp [Ideal.ofBits, Ideal.ieee]

/-- The logarithm of a positive real. -/
theorem log_pos_coe (r : ℝ) (h : 0 < r) : Ideal.log ((r : ℝ) : EReal) = ((Real.log r : ℝ) : EReal) := by
  rw [Ideal.log_coe, if_neg (not_le.mpr h)]

/-- The quotient of two reals. -/
theorem div_coe (r s : ℝ) (hs : s ≠ 0) : Ideal.div ((r : ℝ) : EReal) ((s : ℝ) : EReal) = ((r / s : ℝ) : EReal) := by
  have h : ((s : ℝ) : EReal) ≠ 0 := fun e => hs (EReal.coe_eq_zero.mp e)
  rw [Ideal.div, if_neg h, ← EReal.coe_inv, ← EReal.coe_mul, div_eq_mul_inv]

/-- The sum of a [1, 2, 5, 2048] array's logarithms, over every index. -/
theorem total_cols (C : Vec Ideal S2x5x8x2048 .f32) (cc : Fin 2 → Fin 5 → Fin 8 → Fin 2048 → ℝ)
    (hC : ∀ p v s t, C (ix4 p v s t) = ((cc p v s t : ℝ) : EReal)) (hc : ∀ p v t, 0 < ∑ s, cc p v s t) :
    Ideal.reduceAdd reduces_S1x2x5x2048_S1 (shapeCast S1x2x5x2048 (log (F := Ideal) (φ := .f32) (Ideal.reduceAdd reduces_S2x5x8x2048_S2x5x2048 C))
      shapeCasts_S2x5x2048_S1x2x5x2048) (ix1 0) = ((∑ p, ∑ v, ∑ t, Real.log (∑ s, cc p v s t) : ℝ) : EReal) := by
  rw [Ideal.reduceAdd_total _ (by decide), sum_idx4, Fin.sum_univ_one]
  have e : ∀ (p : Fin 2) (v : Fin 5) (t : Fin 2048), shapeCast S1x2x5x2048 (log (F := Ideal) (φ := .f32) (Ideal.reduceAdd reduces_S2x5x8x2048_S2x5x2048 C))
      shapeCasts_S2x5x2048_S1x2x5x2048 (ix4 0 p v t) = ((Real.log (∑ s, cc p v s t) : ℝ) : EReal) := fun p v t => by
    pointwise
    simp only [hC]
    rw [coe_sum, log_pos_coe _ (hc p v t)]
  simp only [← coe_sum]
  exact Finset.sum_congr rfl fun p _ => Finset.sum_congr rfl fun v _ => Finset.sum_congr rfl fun t _ => e p v t

theorem total_diag (D : Vec Ideal S2x1x128 .f32) (dd : Fin 2 → Fin 128 → ℝ) (hD : ∀ p l, D (ix3 p 0 l) = ((dd p l : ℝ) : EReal))
    (h : S2x1x128.ShapeCasts S1x2x1x128) :
    Ideal.reduceAdd reduces_S1x2x1x128_S1 (shapeCast S1x2x1x128 D h) (ix1 0) = ((∑ p, ∑ l, dd p l : ℝ) : EReal) := by
  rw [Ideal.reduceAdd_total _ (by decide), sum_idx4, Fin.sum_univ_one]
  have e : ∀ (p : Fin 2) (l : Fin 128), shapeCast S1x2x1x128 D h (ix4 0 p 0 l) = ((dd p l : ℝ) : EReal) := fun p l => by
    pointwise
    exact hD p l
  simp only [← coe_sum]
  refine Finset.sum_congr rfl fun p _ => ?_
  rw [Fin.sum_univ_one]
  exact Finset.sum_congr rfl fun l _ => e p l

/-- The loss the second launch computes. -/
theorem pay1_at (R0 R1 : Vec Ideal S1x1x4096 .f32) (C : Vec Ideal S2x5x8x2048 .f32) (D : Vec Ideal S2x1x128 .f32)
    (r0 r1 : ℕ → ℝ) (cc : Fin 2 → Fin 5 → Fin 8 → Fin 2048 → ℝ) (dd : Fin 2 → Fin 128 → ℝ)
    (h0 : ∀ a : Fin 4096, R0 (ix3 0 0 a) = ((r0 a.val : ℝ) : EReal)) (h1 : ∀ a : Fin 4096, R1 (ix3 0 0 a) = ((r1 a.val : ℝ) : EReal))
    (hC : ∀ p v s t, C (ix4 p v s t) = ((cc p v s t : ℝ) : EReal)) (hD : ∀ p l, D (ix3 p 0 l) = ((dd p l : ℝ) : EReal))
    (hr : ∀ a : Fin 4096, 0 < r0 a.val + r1 a.val) (hc : ∀ p v t, 0 < ∑ s, cc p v s t) :
    k1_pay1 R0 R1 C D (ix2 0 0) = ((1 / 2 * ((∑ a : Fin 4096, Real.log (r0 a.val + r1 a.val)) / 4096
      + (∑ p, ∑ v, ∑ t, Real.log (∑ s, cc p v s t)) / 20480 + 2 * (7 / 100)⁻¹ - (2 * ((∑ p, ∑ l, dd p l) * Real.log 2)) / 20480) : ℝ) : EReal) := by
  pointwise [k1_pay1]
  have er : (∑ x : Fin 4096, Ideal.log (R0 (ix3 0 0 x) + R1 (ix3 0 0 x)) : EReal) = ((∑ a : Fin 4096, Real.log (r0 a.val + r1 a.val) : ℝ) : EReal) := by
    rw [← coe_sum]
    refine Finset.sum_congr rfl fun a _ => ?_
    rw [h0, h1, ← EReal.coe_add, log_pos_coe _ (hr a)]
  rw [er, total_cols C cc hC hc, total_diag D dd hD, named_ln2, named_two, lit_4096, lit_20480, lit_two, lit_half]
  simp only [← EReal.coe_mul, ← EReal.coe_add, ← EReal.coe_sub, div_coe _ 4096 (by norm_num), div_coe _ 20480 (by norm_num)]

end Cert.Proof.Val

end
-- ==== Proof.Val.Sum.lean ====
module

public import proofs.«01_k».proof.Proof.KI.Launch
public import proofs.«01_k».proof.Proof.Val.Arr
public import proofs.«01_k».proof.Proof.Val.Fin

/-!
  The orders the kernel sums in, each against the plain order, and the loss the kernel computes as a formula in reals.
-/

@[expose] public section

set_option maxRecDepth 16384

noncomputable section

namespace Cert.Proof.Val

open Cert.KernelIdeal Cert.KernelIdeal.Gen Cert.Proof.KI

open Idealize.ShloMosaic
open Idealize.ShloMosaic.TcCoe

/-- The 4096 texts: two halves of two tiles, each tile two sub-tiles of four lane blocks. -/
theorem sum_texts (f : ℕ → ℝ) : ∑ b : Fin 4096, f b.val
    = ∑ p : Fin 2, ∑ j : Fin 2, ∑ h : Fin 2, ∑ k : Fin 4, ∑ q : Fin 128, f (at5 p.val j.val h.val k.val q.val) := by
  rw [Fin.sum_univ_tiles 4 1024 rfl fun b : Fin 4096 => f b.val, Fin.sum_univ_tiles 2 2 rfl fun J : Fin 4 => ∑ t : Fin 1024, f (J.val * 1024 + t.val)]
  refine Finset.sum_congr rfl fun p _ => Finset.sum_congr rfl fun j _ => ?_
  rw [Fin.sum_univ_tiles 2 512 rfl fun t : Fin 1024 => f ((p.val * 2 + j.val) * 1024 + t.val)]
  refine Finset.sum_congr rfl fun h _ => ?_
  rw [Fin.sum_univ_tiles 4 128 rfl fun t : Fin 512 => f ((p.val * 2 + j.val) * 1024 + (h.val * 512 + t.val))]
  refine Finset.sum_congr rfl fun k _ => Finset.sum_congr rfl fun q _ => congrArg f ?_
  show (p.val * 2 + j.val) * 1024 + (h.val * 512 + (k.val * 128 + q.val)) = 1024 * (2 * p.val + j.val) + (512 * h.val + (128 * k.val + q.val))
  ring

/-- The 4096 images: eight sublanes, each met once in every eight rows. -/
theorem sum_images (f : ℕ → ℝ) : ∑ a : Fin 4096, f a.val
    = ∑ s : Fin 8, ∑ k : Fin 4, ∑ g : Fin 2, ∑ i : Fin 64, f (1024 * k.val + (512 * g.val + (8 * i.val + s.val))) := by
  rw [Fin.sum_univ_tiles 4 1024 rfl fun b : Fin 4096 => f b.val]
  refine Eq.trans ?_ Finset.sum_comm
  refine Finset.sum_congr rfl fun k _ => ?_
  rw [Fin.sum_univ_tiles 2 512 rfl fun t : Fin 1024 => f (k.val * 1024 + t.val)]
  refine Eq.trans ?_ Finset.sum_comm
  refine Finset.sum_congr rfl fun g _ => ?_
  rw [Fin.sum_univ_tiles 64 8 rfl fun t : Fin 512 => f (k.val * 1024 + (g.val * 512 + t.val))]
  refine Eq.trans ?_ Finset.sum_comm
  refine Finset.sum_congr rfl fun i _ => Finset.sum_congr rfl fun s _ => congrArg f ?_
  show k.val * 1024 + (g.val * 512 + (i.val * 8 + s.val)) = 1024 * k.val + (512 * g.val + (8 * i.val + s.val))
  ring

/-- The 4096 texts as two halves. -/
theorem sum_halves (f : ℕ → ℝ) : ∑ b : Fin 4096, f b.val = ∑ p : Fin 2, ∑ t : Fin 2048, f (2048 * p.val + t.val) := by
  rw [Fin.sum_univ_tiles 2 2048 rfl fun b : Fin 4096 => f b.val]
  refine Finset.sum_congr rfl fun p _ => Finset.sum_congr rfl fun t _ => congrArg f ?_
  show p.val * 2048 + t.val = 2048 * p.val + t.val
  ring

section
variable (xr : ℕ → Fin 512 → ℝ) (wr : ℕ → Fin 5 → Fin 512 → ℝ)

/-- The loss the kernel computes. -/
def kern : ℝ := 1 / 2 * ((∑ a : Fin 4096, Real.log (∑ b : Fin 4096, ∑ v : Fin 5, ex xr wr a.val b.val v)) / 4096
  + (∑ b : Fin 4096, ∑ v : Fin 5, Real.log (∑ a : Fin 4096, ex xr wr a.val b.val v)) / 20480 + 2 * (7 / 100)⁻¹
  - (2 * ((∑ b : Fin 4096, ∑ v : Fin 5, sc xr wr b.val b.val v) * Real.log 2)) / 20480)

theorem pw_pos (s : ℝ) : 0 < pw s := Real.rpow_pos_of_pos (by norm_num) _

/-- The row sums of a half's texts. -/
def rowR (p a : ℕ) : ℝ := ∑ j : Fin 2, ∑ q : Fin 128, ∑ v : Fin 5, ∑ h : Fin 2, ∑ k : Fin 4, ex xr wr a (at5 p j.val h.val k.val q.val) v
/-- The column sums of a sublane's images. -/
def colR (p : Fin 2) (v : Fin 5) (s : Fin 8) (t : Fin 2048) : ℝ :=
  ∑ k : Fin 4, ∑ g : Fin 2, ∑ i : Fin 64, ex xr wr (1024 * k.val + (512 * g.val + (8 * i.val + s.val))) (2048 * p.val + t.val) v
/-- The diagonal of a half. -/
def diagR (p : Fin 2) (l : Fin 128) : ℝ :=
  ∑ j : Fin 2, ∑ h : Fin 2, ∑ v : Fin 5, ∑ k : Fin 4, sc xr wr (at5 p.val j.val h.val k.val l.val) (at5 p.val j.val h.val k.val l.val) v

/-- The two halves' row sums are the sum over every text and view. -/
theorem rowR_add (a : ℕ) : rowR xr wr 0 a + rowR xr wr 1 a = ∑ b : Fin 4096, ∑ v : Fin 5, ex xr wr a b.val v := by
  rw [sum_texts fun b => ∑ v : Fin 5, ex xr wr a b v]
  refine (Fin.sum_univ_two fun p : Fin 2 => rowR xr wr p.val a).symm.trans ?_
  refine Finset.sum_congr rfl fun p _ => Finset.sum_congr rfl fun j _ => ?_
  rw [Finset.sum_congr rfl fun q _ => Finset.sum_comm, Finset.sum_comm]
  refine Finset.sum_congr rfl fun h _ => ?_
  rw [Finset.sum_congr rfl fun q _ => Finset.sum_comm, Finset.sum_comm]

/-- The eight sublanes' column sums are the sum over every image. -/
theorem colR_sum (p : Fin 2) (v : Fin 5) (t : Fin 2048) :
    ∑ s, colR xr wr p v s t = ∑ a : Fin 4096, ex xr wr a.val (2048 * p.val + t.val) v :=
  (sum_images fun a => ex xr wr a (2048 * p.val + t.val) v).symm

/-- The halves' diagonals are the sum over every text and view. -/
theorem diagR_sum : ∑ p, ∑ l, diagR xr wr p l = ∑ b : Fin 4096, ∑ v : Fin 5, sc xr wr b.val b.val v := by
  rw [sum_texts fun b => ∑ v : Fin 5, sc xr wr b b v]
  refine Finset.sum_congr rfl fun p _ => ?_
  unfold diagR
  rw [Finset.sum_comm]
  refine Finset.sum_congr rfl fun j _ => ?_
  rw [Finset.sum_comm]
  refine Finset.sum_congr rfl fun h _ => ?_
  rw [Finset.sum_congr rfl fun l _ => Finset.sum_comm, Finset.sum_comm]

/-- The loss over the kernel's own sums. -/
theorem kern_eq : 1 / 2 * ((∑ a : Fin 4096, Real.log (rowR xr wr 0 a.val + rowR xr wr 1 a.val)) / 4096
      + (∑ p, ∑ v, ∑ t, Real.log (∑ s, colR xr wr p v s t)) / 20480 + 2 * (7 / 100)⁻¹ - (2 * ((∑ p, ∑ l, diagR xr wr p l) * Real.log 2)) / 20480)
    = kern xr wr := by
  unfold kern
  rw [diagR_sum, sum_halves fun b => ∑ v : Fin 5, Real.log (∑ a : Fin 4096, ex xr wr a.val b v)]
  simp only [rowR_add, colR_sum]
  rw [Finset.sum_congr rfl fun p _ => Finset.sum_comm (s := (Finset.univ : Finset (Fin 5)))]

end

variable (m : (ℓ : Loc nD τ sig) → Buf (Elt Ideal) ℓ) (c : Dev nD)
  (xr : ℕ → Fin 512 → ℝ) (wr : ℕ → Fin 5 → Fin 512 → ℝ)
  (hI : ∀ (a : Fin 4096) (d : Fin 512), argI m c (ix2 a d) = ((xr a.val d : ℝ) : EReal))
  (hT : ∀ (b : Fin 4096) (v : Fin 5) (d : Fin 512), argT m c (ix3 b v d) = ((wr b.val v d : ℝ) : EReal))

include hI hT in
/-- What the second launch leaves. -/
theorem fin_at : finV (U1 m) c (ix2 0 0) = ((kern xr wr : ℝ) : EReal) := by
  rw [← kern_eq]
  unfold finV
  rw [U1_0, U1_1, U1_2]
  exact pay1_at _ _ _ _ (rowR xr wr 0) (rowR xr wr 1) (colR xr wr) (diagR xr wr)
    (fun a => rowF_at m c xr wr hI hT 0 a) (fun a => rowF_at m c xr wr hI hT 1 a)
    (fun p v s t => colF_at m c xr wr hI hT p v s t) (fun p l => diagF_at m c xr wr hI hT p l)
    (fun a => by
      rw [rowR_add]
      exact Finset.sum_pos (fun b _ => Finset.sum_pos (fun v _ => pw_pos _) Finset.univ_nonempty) Finset.univ_nonempty)
    (fun p v t => by
      rw [colR_sum]
      exact Finset.sum_pos (fun b _ => pw_pos _) Finset.univ_nonempty)

include hI hT in
/-- The kernel's result. -/
theorem result_at (i : S_.Idx) : result m c i = ((kern xr wr : ℝ) : EReal) := by
  have e : result m c = shapeCast S_ (U2 m c main_call0_v1 : Vec Ideal S1x1 .f32) shapeCasts_S1x1_S_ := by
    show StableHlo.after hostOps2 (U2 m c) main_v0 = _
    after_results
    rfl
  rw [← fin_at m c xr wr hI hT, ← U2_1, e]
  generalize (U2 m c main_call0_v1 : Vec Ideal S1x1 .f32) = R
  pointwise

end Cert.Proof.Val

end
-- ==== Proof.Val.Loss.lean ====
module

public import proofs.«01_k».proof.Proof.Val.Sum

/-!
  The loss as the problem states it, in reals, and that the kernel's formula is it.
-/

@[expose] public section

set_option maxRecDepth 16384

noncomputable section

namespace Cert.Proof.Val

/-- The sum of the shifted exponentials of finitely many reals, put back: the shift drops out. -/
theorem log_shift {ι : Type*} (s : Finset ι) (hs : s.Nonempty) (f : ι → ℝ) (M : ℝ) :
    Real.log (∑ i ∈ s, Real.exp (f i - M)) + M = Real.log (∑ i ∈ s, Real.exp (f i)) := by
  have h : ∑ i ∈ s, Real.exp (f i - M) = (∑ i ∈ s, Real.exp (f i)) * Real.exp (-M) := by
    rw [Finset.sum_mul]
    exact Finset.sum_congr rfl fun i _ => by rw [← Real.exp_add, sub_eq_add_neg]
  rw [h, Real.log_mul (Finset.sum_pos (fun i _ => Real.exp_pos _) hs).ne' (Real.exp_pos _).ne', Real.log_exp]
  ring

variable (xr : ℕ → Fin 512 → ℝ) (wr : ℕ → Fin 5 → Fin 512 → ℝ)

/-- The logit of image `a` and view `v` of text `b`. -/
def lg (a b : ℕ) (v : Fin 5) : ℝ := inn (xr a) (wr b v) / (7 / 100)

/-- The loss. -/
def loss : ℝ := ((∑ a : Fin 4096, (Real.log (∑ b : Fin 4096, ∑ v : Fin 5, Real.exp (lg xr wr a.val b.val v)) - (∑ v : Fin 5, lg xr wr a.val a.val v) / 5)) / 4096
  + (∑ b : Fin 4096, ∑ v : Fin 5, (Real.log (∑ a : Fin 4096, Real.exp (lg xr wr a.val b.val v)) - lg xr wr b.val b.val v)) / 20480) * (1 / 2)

theorem log2_ne : Real.log 2 ≠ 0 := (Real.log_pos (by norm_num)).ne'

/-- The scaled similarity is the logit in base two. -/
theorem sc_log2 (a b : ℕ) (v : Fin 5) : sc xr wr a b v * Real.log 2 = lg xr wr a b v := by
  have h : sc xr wr a b v = inn (xr a) (wr b v) * c1 := by
    unfold sc inn
    rw [Finset.sum_mul]
    exact Finset.sum_congr rfl fun d _ => by ring
  rw [h, lg, c1]
  field_simp [log2_ne]

/-- The kernel's power of two is the exponential of the logit, one shifted. -/
theorem ex_eq (a b : ℕ) (v : Fin 5) : ex xr wr a b v = Real.exp (lg xr wr a b v - (7 / 100)⁻¹) := by
  rw [← sc_log2]
  unfold ex pw
  show (2 : ℝ) ^ (sc xr wr a b v - c1) = _
  rw [Real.rpow_def_of_pos (by norm_num)]
  congr 1
  have h : Real.log 2 * c1 = (7 / 100)⁻¹ := by rw [c1, ← mul_assoc, mul_inv_cancel₀ log2_ne, one_mul]
  rw [mul_sub, h, mul_comm]

/-- A row's logarithm. -/
theorem row_log (a : ℕ) : Real.log (∑ b : Fin 4096, ∑ v : Fin 5, ex xr wr a b.val v)
    = Real.log (∑ b : Fin 4096, ∑ v : Fin 5, Real.exp (lg xr wr a b.val v)) - (7 / 100)⁻¹ := by
  have h := log_shift (Finset.univ : Finset (Fin 4096 × Fin 5)) Finset.univ_nonempty (fun z => lg xr wr a z.1.val z.2) (7 / 100)⁻¹
  simp only [Fintype.sum_prod_type] at h
  rw [← h]
  simp only [ex_eq]
  ring

/-- A column's logarithm. -/
theorem col_log (b : ℕ) (v : Fin 5) : Real.log (∑ a : Fin 4096, ex xr wr a.val b v)
    = Real.log (∑ a : Fin 4096, Real.exp (lg xr wr a.val b v)) - (7 / 100)⁻¹ := by
  rw [← log_shift Finset.univ Finset.univ_nonempty (fun a : Fin 4096 => lg xr wr a.val b v) (7 / 100)⁻¹]
  simp only [ex_eq]
  ring

/-- The kernel's formula is the loss: the two shifts are the constant it adds, and the two diagonals are one. -/
theorem kern_eq_loss : kern xr wr = loss xr wr := by
  have hd : (∑ b : Fin 4096, ∑ v : Fin 5, sc xr wr b.val b.val v) * Real.log 2 = ∑ b : Fin 4096, ∑ v : Fin 5, lg xr wr b.val b.val v := by
    rw [Finset.sum_mul]
    exact Finset.sum_congr rfl fun b _ => by
      rw [Finset.sum_mul]
      exact Finset.sum_congr rfl fun v _ => sc_log2 xr wr b.val b.val v
  unfold kern loss
  rw [hd]
  simp only [row_log, col_log, Finset.sum_sub_distrib, ← Finset.sum_div, Finset.sum_const, Finset.card_univ, Fintype.card_fin, nsmul_eq_mul]
  push_cast
  ring

end Cert.Proof.Val

end
-- ==== Proof.Val.Ref.lean ====
module

public import proofs.«01_k».proof.Proof.Val.RefIdx
public import proofs.«01_k».proof.Proof.Val.Loss

/-!
  The reference over the reals: its logits, its two logarithms of sums and its loss.
-/

@[expose] public section

set_option maxRecDepth 16384

noncomputable section

namespace Cert.Proof.Val

open Cert.ReferenceIdeal Cert.ReferenceIdeal.Gen Cert.ReferenceIdeal.Read

open Idealize.ShloMosaic
open Idealize.ShloMosaic.TcCoe

variable (x0 : (⟨S4096x512, .f32⟩ : BufTy).Contents (Elt Ideal)) (x1 : (⟨S4096x5x512, .f32⟩ : BufTy).Contents (Elt Ideal))
  (xr : ℕ → Fin 512 → ℝ) (wr : ℕ → Fin 5 → Fin 512 → ℝ)
  (hI : ∀ (a : Fin 4096) (d : Fin 512), x0 (ix2 a d) = ((xr a.val d : ℝ) : EReal))
  (hT : ∀ (b : Fin 4096) (v : Fin 5) (d : Fin 512), x1 (ix3 b v d) = ((wr b.val v d : ℝ) : EReal))

/-- The logit of image `a` and column `n`. -/
def lc (a n : ℕ) : ℝ := lg xr wr a (n / 5) ⟨n % 5, Nat.mod_lt _ (by norm_num)⟩

theorem lc_tile (a b : ℕ) (v : Fin 5) : lc xr wr a (b * 5 + v.val) = lg xr wr a b v := by
  have hv := v.isLt
  have h1 : (b * 5 + v.val) / 5 = b := by omega
  have h2 : (⟨(b * 5 + v.val) % 5, Nat.mod_lt _ (by norm_num)⟩ : Fin 5) = v := Fin.ext (by show (b * 5 + v.val) % 5 = v.val; omega)
  rw [lc, h1, h2]

/-- A sum over the columns, text by text. -/
theorem sum_cols (f : ℕ → ℝ) : ∑ n : Fin 20480, f n.val = ∑ b : Fin 4096, ∑ v : Fin 5, f (b.val * 5 + v.val) :=
  Fin.sum_univ_tiles 4096 5 rfl fun n : Fin 20480 => f n.val

include hI hT in
/-- The logits. -/
theorem v5_at (a : Fin 4096) (n : Fin 20480) : val_main_v5 x0 x1 (ix2 a n) = ((lc xr wr a.val n.val : ℝ) : EReal) := by
  pointwise [val_main_v5, val_main_v4, val_main_v3, val_main_v2, val_main_v1, val_main_v0, val_main_cst, val_main_cst_0]
  rw [lit_seven, lit_hundred, div_coe _ _ (by norm_num)]
  simp only [hI, hT, ← EReal.coe_mul]
  rw [coe_sum, div_coe _ _ (by norm_num)]
  rfl

/-- The real the fold of the maximum over a nonempty family of reals is. -/
theorem fold_max_real {ι : Type*} (s : Finset ι) (hs : s.Nonempty) (f : ι → EReal) (hf : ∀ i, ∃ r : ℝ, f i = ((r : ℝ) : EReal)) :
    ∃ M : ℝ, s.fold (FloatOps.maximumf (F := Ideal) (φ := .f32)) (⊥ : EReal) f = ((M : ℝ) : EReal) := by
  classical
  induction hs using Finset.Nonempty.cons_induction with
  | singleton a =>
    obtain ⟨r, hr⟩ := hf a
    refine ⟨r, ?_⟩
    rw [Finset.fold_singleton, hr]
    exact max_bot_right _
  | cons a s h hs ih =>
    obtain ⟨M, hM⟩ := ih
    obtain ⟨r, hr⟩ := hf a
    refine ⟨max r M, ?_⟩
    rw [Finset.fold_cons, hM, hr]
    exact (EReal.coe_strictMono.monotone.map_max (a := r) (b := M)).symm

include hI hT in
theorem v6_real (a : Fin 4096) : ∃ M : ℝ, val_main_v6 x0 x1 (ix1 a) = ((M : ℝ) : EReal) := by
  unfold val_main_v6
  rw [Host.reduce_eq_fold_single _ _ _ _ (by decide)]
  rw [show val_main_cst_1 (F := Ideal) (Shape.Idx.first h_S_) = (⊥ : EReal) from lit_bot]
  exact fold_max_real _ ⟨⟨0, by decide⟩, Finset.mem_univ _⟩ _ fun n => ⟨_, by
    rw [Function.comp, eq_ix2 (Shape.Reduces.lift _ _ _)]
    exact v5_at x0 x1 xr wr hI hT _ _⟩

include hI hT in
theorem v37_real (n : Fin 20480) : ∃ M : ℝ, val_main_v37 x0 x1 (ix1 n) = ((M : ℝ) : EReal) := by
  unfold val_main_v37
  rw [Host.reduce_eq_fold_single _ _ _ _ (by decide)]
  rw [show val_main_cst_10 (F := Ideal) (Shape.Idx.first h_S_) = (⊥ : EReal) from lit_bot]
  exact fold_max_real _ ⟨⟨0, by decide⟩, Finset.mem_univ _⟩ _ fun n => ⟨_, by
    rw [Function.comp, eq_ix2 (Shape.Reduces.lift _ _ _)]
    exact v5_at x0 x1 xr wr hI hT _ _⟩

include hI hT in
/-- A row's logarithm of its exponentials' sum. -/
theorem v13_at (a : Fin 4096) : val_main_v13 x0 x1 (ix1 a) = ((Real.log (∑ n : Fin 20480, Real.exp (lc xr wr a.val n.val)) : ℝ) : EReal) := by
  obtain ⟨M, hM⟩ := v6_real x0 x1 xr wr hI hT a
  pointwise [val_main_v13, val_main_v12, val_main_v11, val_main_v10, val_main_v9, val_main_v8, val_main_v7, val_main_cst_2]
  have h : ∀ n : Fin 20480, Ideal.exp (val_main_v5 x0 x1 (ix2 a n) - val_main_v6 x0 x1 (ix1 a)) = ((Real.exp (lc xr wr a.val n.val - M) : ℝ) : EReal) :=
    fun n => by rw [v5_at x0 x1 xr wr hI hT, hM, ← EReal.coe_sub, Ideal.exp_coe]
  rw [Finset.sum_congr rfl fun n _ => h n, coe_sum, log_pos_coe _ (Finset.sum_pos (fun n _ => Real.exp_pos _) Finset.univ_nonempty), hM, ← EReal.coe_add,
    log_shift _ Finset.univ_nonempty (fun n : Fin 20480 => lc xr wr a.val n.val) M]

include hI hT in
/-- A column's logarithm of its exponentials' sum. -/
theorem v44_at (n : Fin 20480) : val_main_v44 x0 x1 (ix1 n) = ((Real.log (∑ a : Fin 4096, Real.exp (lc xr wr a.val n.val)) : ℝ) : EReal) := by
  obtain ⟨M, hM⟩ := v37_real x0 x1 xr wr hI hT n
  pointwise [val_main_v44, val_main_v43, val_main_v42, val_main_v41, val_main_v40, val_main_v39, val_main_v38, val_main_cst_11]
  have h : ∀ a : Fin 4096, Ideal.exp (val_main_v5 x0 x1 (ix2 a n) - val_main_v37 x0 x1 (ix1 n)) = ((Real.exp (lc xr wr a.val n.val - M) : ℝ) : EReal) :=
    fun a => by rw [v5_at x0 x1 xr wr hI hT, hM, ← EReal.coe_sub, Ideal.exp_coe]
  rw [Finset.sum_congr rfl fun a _ => h a, coe_sum, log_pos_coe _ (Finset.sum_pos (fun a _ => Real.exp_pos _) Finset.univ_nonempty), hM, ← EReal.coe_add,
    log_shift _ Finset.univ_nonempty (fun a : Fin 4096 => lc xr wr a.val n.val) M]

include hI hT in
/-- The mean of an image's five logits against its own text. -/
theorem v33_at (a : Fin 4096) : val_main_v33 x0 x1 (ix1 a) = (((∑ v : Fin 5, lg xr wr a.val a.val v) / 5 : ℝ) : EReal) := by
  pointwise [val_main_v33, val_main_v32, val_main_v31, val_main_cst_6, val_main_cst_7]
  have h : ∀ v : Fin 5, val_main_v30 x0 x1 (ix2 a v) = ((lg xr wr a.val a.val v : ℝ) : EReal) := fun v => by
    rw [v30_at]
    pointwise [val_main_v14]
    rw [v5_at x0 x1 xr wr hI hT, ← lc_tile]
  rw [Finset.sum_congr rfl fun v _ => h v, coe_sum, lit_five, div_coe _ _ (by norm_num)]

include hI hT in
/-- The reference's loss. -/
theorem v66_at (i : S_.Idx) : val_main_v66 x0 x1 i = ((loss xr wr : ℝ) : EReal) := by
  pointwise [val_main_v66, val_main_v65, val_main_v64, val_main_v63, val_main_v62, val_main_v36, val_main_v35, val_main_v34, val_main_cst_8, val_main_cst_9, val_main_cst_17, val_main_cst_18, val_main_cst_19]
  have hr : ∀ a : Fin 4096, val_main_v13 x0 x1 (ix1 a) - val_main_v33 x0 x1 (ix1 a)
      = ((Real.log (∑ b : Fin 4096, ∑ v : Fin 5, Real.exp (lg xr wr a.val b.val v)) - (∑ v : Fin 5, lg xr wr a.val a.val v) / 5 : ℝ) : EReal) := fun a => by
    rw [v13_at x0 x1 xr wr hI hT, v33_at x0 x1 xr wr hI hT, ← EReal.coe_sub, sum_cols fun n => Real.exp (lc xr wr a.val n)]
    simp only [lc_tile]
  have hc : ∀ n : Fin 20480, val_main_v44 x0 x1 (ix1 n) - val_main_v61 x0 x1 (ix1 n)
      = ((Real.log (∑ a : Fin 4096, Real.exp (lc xr wr a.val n.val)) - lc xr wr (n.val / 5) n.val : ℝ) : EReal) := fun n => by
    rw [v44_at x0 x1 xr wr hI hT, v61_at, v5_at x0 x1 xr wr hI hT, ← EReal.coe_sub]
  rw [Finset.sum_congr rfl fun a _ => hr a, Finset.sum_congr rfl fun n _ => hc n, coe_sum, coe_sum,
    sum_cols fun n => Real.log (∑ a : Fin 4096, Real.exp (lc xr wr a.val n)) - lc xr wr (n / 5) n, lit_4096, lit_20480, lit_half,
    div_coe _ _ (by norm_num), div_coe _ _ (by norm_num), ← EReal.coe_add, ← EReal.coe_mul]
  have hd : ∀ (b : ℕ) (v : Fin 5), (b * 5 + v.val) / 5 = b := fun b v => by omega
  simp only [lc_tile, hd]
  rfl

end Cert.Proof.Val

end
-- ==== Proof.Val.Pre.lean ====
module

public import proofs.«01_k».proof.Pre_finite
public import Idealize.ShloMosaic.Lib.Pointwise
public import Idealize.ShloMosaic.Lib.ReduceAll

/-!
  What the precondition says: every entry of both arguments is a real number.
-/

@[expose] public section

set_option maxRecDepth 16384

noncomputable section

namespace Cert.Proof.Val

open Cert.Pre_finite

open Idealize.ShloMosaic
open Idealize.ShloMosaic.TcCoe

theorem pre_facts : Cert.Pre_finite.Facts := ⟨by decide, by decide, by decide, by decide, by decide⟩

instance : Cert.Pre_finite.Facts := pre_facts

/-- An extended real whose magnitude compares below infinity is a real. -/
theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by
      simp only [Ideal.cmp]
      simp [hn]
    rw [this] at h
    exact absurd h (by decide)
  refine (EReal.coe_toReal (fun e => ?_) (fun e => ?_)).symm
  · rw [e, max_eq_left le_top] at hlt
    exact lt_irrefl _ hlt
  · rw [e, EReal.neg_bot, max_eq_right le_top] at hlt
    exact lt_irrefl _ hlt

/-- The precondition's two halves. -/
theorem pre_entries (X : FVec Ideal S4096x512 .f32) (Y : FVec Ideal S4096x5x512 .f32) (h : Cert.Pre_finite.fn (F := Ideal) X Y = fun _ => 1#1) :
    (∀ i, X i = (((X i : EReal).toReal : ℝ) : EReal)) ∧ ∀ i, Y i = (((Y i : EReal).toReal : ℝ) : EReal) := by
  haveI : Subsingleton S_.Idx := ⟨fun a b => funext fun x => x.elim0⟩
  have h0 := congrFun h ix0
  obtain ⟨ha, hb⟩ := IntOp.andi_eq_one.1 h0
  exact ⟨fun i => real_of_lt _ (Host.reduce_andi_all _ _ _ _ _ ha i), fun i => real_of_lt _ (Host.reduce_andi_all _ _ _ _ _ hb i)⟩

end Cert.Proof.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KB.Frame
public import proofs.«01_k».proof.Proof.Val.Ref
public import proofs.«01_k».proof.Proof.Val.Pre
public import Idealize.ShloMosaic.Adequacy
public import Idealize.ShloMosaic.Init

@[expose] public section

noncomputable section

namespace Cert.Proof

open Idealize.ShloMosaic Idealize.SL.Sem

/-- The float kernel runs, leaves its arguments and ends quiet. -/
theorem frame_p : Cert.quiescent_Kernel := fun m ρ _ => KB.run m ρ

/-- The real kernel runs, leaves its arguments and ends quiet. -/
theorem frame_pi : Cert.quiescent_KernelIdeal := fun m ρ _ =>
  (θ_run _ _ _).mono (fun _ h => ⟨fun c => (h.1 c).2, h.2⟩) (KI.run (F := Ideal) m ρ)

/-- The real reference runs, leaves its arguments and ends quiet: it has no counters. -/
theorem frame_ri : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- Each named constant has the value its table gives it. -/
theorem preserves : Cert.preserves_Kernel_KernelIdeal :=
  ⟨IdealRules.named_const.statement Cert.KernelIdeal.κ "log2e_over_t" .f32 0x41A4E123#32 (((Real.log 2)⁻¹ * (7 / 100)⁻¹ : ℝ) : EReal) rfl,
    IdealRules.named_const.statement Cert.KernelIdeal.κ "ln2" .f32 0x3F317218#32 ((Real.log 2 : ℝ) : EReal) rfl,
    IdealRules.named_const.statement Cert.KernelIdeal.κ "two_over_t" .f32 0x41E49249#32 ((2 * (7 / 100)⁻¹ : ℝ) : EReal) rfl⟩

/-- The frames over the finite inputs, which the frames over all inputs hold. -/
theorem frame_pi_finite : Cert.quiescent_KernelIdeal_pre_finite := fun m ρ _ => frame_pi m ρ trivial
theorem frame_ri_finite : Cert.quiescent_ReferenceIdeal_pre_finite := fun m ρ _ => frame_ri m ρ trivial

/-- The real numbers of a finite array of images, by place. -/
def imgR (X : (⟨Cert.KernelIdeal.S4096x512, .f32⟩ : BufTy).Contents (Elt Ideal)) (a : ℕ) (d : Fin 512) : ℝ :=
  if h : a < 4096 then (X (ix2 ⟨a, h⟩ d) : EReal).toReal else 0
/-- The real numbers of a finite array of texts, by place. -/
def txtR (Y : (⟨Cert.KernelIdeal.S4096x5x512, .f32⟩ : BufTy).Contents (Elt Ideal)) (b : ℕ) (v : Fin 5) (d : Fin 512) : ℝ :=
  if h : b < 4096 then (Y (ix3 ⟨b, h⟩ v d) : EReal).toReal else 0

/-- Over the reals the kernel's result is the reference's: both are the loss. -/
theorem algebraic : Cert.algebraic_KernelIdeal_ReferenceIdeal_pre_finite := by
  intro m g m' g' hpre hagree
  refine ⟨fun c => KI.result m c, (θ_run _ _ _).mono (fun _ h => h.1) (KI.run (F := Ideal) m g),
    (θ_run _ _ _).mono (fun _ h c => ⟨(h c).1.trans ?_, (h c).2⟩) (Cert.ReferenceIdeal.Value.run (F := Ideal) m' g')⟩
  rw [Cert.ReferenceIdeal.Read.val_main_v66_eq, (hagree c).1, (hagree c).2]
  obtain ⟨hX, hY⟩ := Val.pre_entries _ _ (hpre c)
  have hI : ∀ (a : Fin 4096) (d : Fin 512), KI.argI m c (ix2 a d) = ((imgR (KI.argI m c) a.val d : ℝ) : EReal) := fun a d => by
    rw [imgR, dif_pos a.isLt]
    exact hX (ix2 a d)
  have hT : ∀ (b : Fin 4096) (v : Fin 5) (d : Fin 512), KI.argT m c (ix3 b v d) = ((txtR (KI.argT m c) b.val v d : ℝ) : EReal) := fun b v d => by
    rw [txtR, dif_pos b.isLt]
    exact hY (ix3 b v d)
  funext i
  exact (Val.v66_at _ _ _ _ hI hT i).trans ((Val.result_at m c _ _ hI hT i).trans (congrArg _ (Val.kern_eq_loss _ _))).symm

theorem claim : Cert.Claim := ⟨Cert.Kernel.Gen.facts, Cert.KernelIdeal.Gen.facts, Cert.ReferenceIdeal.Gen.facts, Val.pre_facts,
  frame_p, frame_pi, frame_pi_finite, frame_ri, frame_ri_finite, preserves, algebraic⟩

end Cert.Proof

end
